-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_std" .f32 0x42333196#32 (((Real.sqrt (136966507 / 274877906944))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16777216x3 : Shape := ⟨2, ![16777216, 3]⟩
abbrev S8192 : Shape := ⟨1, ![8192]⟩
abbrev S8192x3 : Shape := ⟨2, ![8192, 3]⟩
abbrev S_ : Shape := ⟨0, ![]⟩

class Facts : Prop where
  bcast_S_S16777216x3 : S_.BroadcastsInDim S16777216x3 (![] : Fin 0 → Fin S16777216x3.rank)

variable [Facts]

def fn {F : FTy → Type} [FloatOps F] (main_arg0 : FVec F S16777216x3 .f32) (main_arg1 : FVec F S8192 .f32) (main_arg2 : FVec F S8192x3 .f32) (main_arg3 : FVec F S16777216x3 .f32) : IVec S16777216x3 1 :=
  let main_v0 : FVec F S16777216x3 .f32 := Host.absf main_arg0
  let main_cst : FVec F S_ .f32 := constant S_ .f32 0x7F800000#32
  let main_v1 : FVec F S16777216x3 .f32 := broadcastInDim S16777216x3 ![] bcast_S_S16777216x3 main_cst
  let main_v2 : IVec S16777216x3 1 := cmpf .olt main_v0 main_v1
  let main_v3 : FVec F S16777216x3 .f32 := Host.absf main_arg3
  let main_cst_0 : FVec F S_ .f32 := constant S_ .f32 0x7F800000#32
  let main_v4 : FVec F S16777216x3 .f32 := broadcastInDim S16777216x3 ![] bcast_S_S16777216x3 main_cst_0
  let main_v5 : IVec S16777216x3 1 := cmpf .olt main_v3 main_v4
  let main_v6 : IVec S16777216x3 1 := andi main_v2 main_v5
  main_v6
-- ==== Kernel.lean ====
abbrev S16777216x3 : Shape := ⟨2, ![16777216, 3]⟩
abbrev S8192 : Shape := ⟨1, ![8192]⟩
abbrev S8192x3 : Shape := ⟨2, ![8192, 3]⟩
abbrev S1920x16 : Shape := ⟨2, ![1920, 16]⟩
abbrev S3x16777216 : Shape := ⟨2, ![3, 16777216]⟩
abbrev S3x8192x2048 : Shape := ⟨3, ![3, 8192, 2048]⟩
abbrev S8192x16 : Shape := ⟨2, ![8192, 16]⟩
abbrev S16x8192 : Shape := ⟨2, ![16, 8192]⟩
abbrev S3x256x2048 : Shape := ⟨3, ![3, 256, 2048]⟩
abbrev S256x16 : Shape := ⟨2, ![256, 16]⟩
abbrev S16x256 : Shape := ⟨2, ![16, 256]⟩
abbrev S1x256x2048 : Shape := ⟨3, ![1, 256, 2048]⟩
abbrev S256x2048 : Shape := ⟨2, ![256, 2048]⟩
abbrev S256x128 : Shape := ⟨2, ![256, 128]⟩
abbrev S256x1920 : Shape := ⟨2, ![256, 1920]⟩
abbrev S16x64x128 : Shape := ⟨3, ![16, 64, 128]⟩
abbrev S3x8192 : Shape := ⟨2, ![3, 8192]⟩
abbrev S3x64x128 : Shape := ⟨3, ![3, 64, 128]⟩
abbrev S16x32x128 : Shape := ⟨3, ![16, 32, 128]⟩
abbrev S3x32x128 : Shape := ⟨3, ![3, 32, 128]⟩
abbrev S1x32x128 : Shape := ⟨3, ![1, 32, 128]⟩
abbrev S32x128 : Shape := ⟨2, ![32, 128]⟩
abbrev S3x4x2048 : Shape := ⟨3, ![3, 4, 2048]⟩
abbrev S1x3x1x4x1x2048 : Shape := ⟨6, ![1, 3, 1, 4, 1, 2048]⟩
abbrev S1x3x2x4x1x2048 : Shape := ⟨6, ![1, 3, 2, 4, 1, 2048]⟩
abbrev S3x8x2048 : Shape := ⟨3, ![3, 8, 2048]⟩
abbrev S4x2048 : Shape := ⟨2, ![4, 2048]⟩
abbrev S1x4x1x2048 : Shape := ⟨4, ![1, 4, 1, 2048]⟩
abbrev S2x4x1x2048 : Shape := ⟨4, ![2, 4, 1, 2048]⟩
abbrev S8x2048 : Shape := ⟨2, ![8, 2048]⟩
abbrev S256x1 : Shape := ⟨2, ![256, 1]⟩
abbrev S1x8x2048 : Shape := ⟨3, ![1, 8, 2048]⟩

abbrev nBuf : Space → Nat
  | .hbm => 26
  | .vmem => 23
  | .smem => 0
  | _ => 0

abbrev bufTy : (tb : Table) → Fin (tcTables nBuf tb) → BufTy
  | .hbm, ⟨0, _⟩ => ⟨S16777216x3, .f32⟩
  | .hbm, ⟨1, _⟩ => ⟨S8192, .f32⟩
  | .hbm, ⟨2, _⟩ => ⟨S8192x3, .f32⟩
  | .hbm, ⟨3, _⟩ => ⟨S16777216x3, .f32⟩
  | .hbm, ⟨4, _⟩ => ⟨S1920x16, .f32⟩
  | .hbm, ⟨5, _⟩ => ⟨S3x16777216, .f32⟩
  | .hbm, ⟨6, _⟩ => ⟨S3x8192x2048, .f32⟩
  | .hbm, ⟨7, _⟩ => ⟨S3x16777216, .f32⟩
  | .hbm, ⟨8, _⟩ => ⟨S3x8192x2048, .f32⟩
  | .hbm, ⟨9, _⟩ => ⟨S8192x16, .f32⟩
  | .hbm, ⟨10, _⟩ => ⟨S16x8192, .f32⟩
  | .hbm, ⟨11, _⟩ => ⟨S16x64x128, .f32⟩
  | .hbm, ⟨12, _⟩ => ⟨S3x8192, .f32⟩
  | .hbm, ⟨13, _⟩ => ⟨S3x64x128, .f32⟩
  | .hbm, ⟨14, _⟩ => ⟨S3x64x128, .f32⟩
  | .hbm, ⟨15, _⟩ => ⟨S3x4x2048, .f32⟩
  | .hbm, ⟨16, _⟩ => ⟨S1x3x1x4x1x2048, .f32⟩
  | .hbm, ⟨17, _⟩ => ⟨S1x3x2x4x1x2048, .f32⟩
  | .hbm, ⟨18, _⟩ => ⟨S3x8x2048, .f32⟩
  | .hbm, ⟨19, _⟩ => ⟨S4x2048, .f32⟩
  | .hbm, ⟨20, _⟩ => ⟨S1x4x1x2048, .f32⟩
  | .hbm, ⟨21, _⟩ => ⟨S2x4x1x2048, .f32⟩
  | .hbm, ⟨22, _⟩ => ⟨S8x2048, .f32⟩
  | .hbm, ⟨23, _⟩ => ⟨S3x8192x2048, .f32⟩
  | .hbm, ⟨24, _⟩ => ⟨S3x16777216, .f32⟩
  | .hbm, ⟨25, _⟩ => ⟨S16777216x3, .f32⟩
  | .local _ .vmem, ⟨0, _⟩ => ⟨S3x256x2048, .f32⟩
  | .local _ .vmem, ⟨1, _⟩ => ⟨S3x256x2048, .f32⟩
  | .local _ .vmem, ⟨2, _⟩ => ⟨S3x256x2048, .f32⟩
  | .local _ .vmem, ⟨3, _⟩ => ⟨S3x256x2048, .f32⟩
  | .local _ .vmem, ⟨4, _⟩ => ⟨S1920x16, .f32⟩
  | .local _ .vmem, ⟨5, _⟩ => ⟨S256x16, .f32⟩
  | .local _ .vmem, ⟨6, _⟩ => ⟨S256x16, .f32⟩
  | .local _ .vmem, ⟨7, _⟩ => ⟨S16x256, .f32⟩
  | .local _ .vmem, ⟨8, _⟩ => ⟨S16x256, .f32⟩
  | .local _ .vmem, ⟨9, _⟩ => ⟨S16x32x128, .f32⟩
  | .local _ .vmem, ⟨10, _⟩ => ⟨S16x32x128, .f32⟩
  | .local _ .vmem, ⟨11, _⟩ => ⟨S3x32x128, .f32⟩
  | .local _ .vmem, ⟨12, _⟩ => ⟨S3x32x128, .f32⟩
  | .local _ .vmem, ⟨13, _⟩ => ⟨S3x32x128, .f32⟩
  | .local _ .vmem, ⟨14, _⟩ => ⟨S3x32x128, .f32⟩
  | .local _ .vmem, ⟨15, _⟩ => ⟨S3x256x2048, .f32⟩
  | .local _ .vmem, ⟨16, _⟩ => ⟨S3x256x2048, .f32⟩
  | .local _ .vmem, ⟨17, _⟩ => ⟨S256x16, .f32⟩
  | .local _ .vmem, ⟨18, _⟩ => ⟨S256x16, .f32⟩
  | .local _ .vmem, ⟨19, _⟩ => ⟨S8x2048, .f32⟩
  | .local _ .vmem, ⟨20, _⟩ => ⟨S3x8x2048, .f32⟩
  | .local _ .vmem, ⟨21, _⟩ => ⟨S3x256x2048, .f32⟩
  | .local _ .vmem, ⟨22, _⟩ => ⟨S3x256x2048, .f32⟩
  | _, _ => ⟨S16777216x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S3x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1920x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S16x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage2_0 : Fin 2 → Memref sig .tc .vmem S3x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S8x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S3x8x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S3x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== KernelIdeal.lean ====
variable {F : FTy → Type} [FloatOps F] [Named F]
def κ : String → Option EReal := fun
  | "inv_std" => some (((Real.sqrt (136966507 / 274877906944))⁻¹ : ℝ) : EReal)
  | _ => none
-- ==== ReferenceIdeal.lean ====
abbrev S16777216x3 : Shape := ⟨2, ![16777216, 3]⟩
abbrev S8192 : Shape := ⟨1, ![8192]⟩
abbrev S8192x3 : Shape := ⟨2, ![8192, 3]⟩
abbrev S8192x2048x3 : Shape := ⟨3, ![8192, 2048, 3]⟩
abbrev S_ : Shape := ⟨0, ![]⟩
abbrev S8192x1x3 : Shape := ⟨3, ![8192, 1, 3]⟩
abbrev S8192x2048 : Shape := ⟨2, ![8192, 2048]⟩
abbrev S8192x1 : Shape := ⟨2, ![8192, 1]⟩
abbrev S8192x3x3 : Shape := ⟨3, ![8192, 3, 3]⟩
abbrev S8192x3x1 : Shape := ⟨3, ![8192, 3, 1]⟩
abbrev S1x8192x1x1 : Shape := ⟨4, ![1, 8192, 1, 1]⟩
abbrev S2048x8192x1x1 : Shape := ⟨4, ![2048, 8192, 1, 1]⟩
abbrev S16777216x1 : Shape := ⟨2, ![16777216, 1]⟩
abbrev S1x8192x1x3 : Shape := ⟨4, ![1, 8192, 1, 3]⟩
abbrev S2048x8192x1x3 : Shape := ⟨4, ![2048, 8192, 1, 3]⟩

abbrev nBuf : Space → Nat
  | .hbm => 140
  | .vmem => 0
  | .smem => 0
  | _ => 0

abbrev hbmTy0_0 (i : Nat) : BufTy := match i % 128 with
  | 0 => ⟨S16777216x3, .f32⟩
  | 1 => ⟨S8192, .f32⟩
  | 2 => ⟨S8192x3, .f32⟩
  | 3 => ⟨S16777216x3, .f32⟩
  | 4 => ⟨S8192x2048x3, .f32⟩
  | 5 => ⟨S_, .f32⟩
  | 6 => ⟨S8192x3, .f32⟩
  | 7 => ⟨S8192x1x3, .f32⟩
  | 8 => ⟨S_, .f32⟩
  | 9 => ⟨S8192x1x3, .f32⟩
  | 10 => ⟨S8192x1x3, .f32⟩
  | 11 => ⟨S8192x2048x3, .f32⟩
  | 12 => ⟨S8192x2048x3, .f32⟩
  | 13 => ⟨S8192x2048x3, .f32⟩
  | 14 => ⟨S_, .f32⟩
  | 15 => ⟨S8192x2048, .f32⟩
  | 16 => ⟨S_, .f32⟩
  | 17 => ⟨S8192, .f32⟩
  | 18 => ⟨S_, .f32⟩
  | 19 => ⟨S8192, .f32⟩
  | 20 => ⟨S8192, .f32⟩
  | 21 => ⟨S8192x1, .f32⟩
  | 22 => ⟨S8192x2048, .f32⟩
  | 23 => ⟨S8192x2048, .f32⟩
  | 24 => ⟨S8192x2048, .f32⟩
  | 25 => ⟨S_, .f32⟩
  | 26 => ⟨S8192, .f32⟩
  | 27 => ⟨S8192x1, .f32⟩
  | 28 => ⟨S8192x2048, .f32⟩
  | 29 => ⟨S8192x2048, .f32⟩
  | 30 => ⟨S_, .f32⟩
  | 31 => ⟨S8192x2048, .f32⟩
  | 32 => ⟨S8192x2048, .f32⟩
  | 33 => ⟨S_, .f32⟩
  | 34 => ⟨S8192, .f32⟩
  | 35 => ⟨S_, .f32⟩
  | 36 => ⟨S8192, .f32⟩
  | 37 => ⟨S8192, .f32⟩
  | 38 => ⟨S8192, .f32⟩
  | 39 => ⟨S8192x2048x3, .f32⟩
  | 40 => ⟨S8192x3x3, .f32⟩
  | 41 => ⟨S8192x3x3, .f32⟩
  | 42 => ⟨S_, .f32⟩
  | 43 => ⟨S8192x3, .f32⟩
  | 44 => ⟨S8192x3x1, .f32⟩
  | 45 => ⟨S8192x3x1, .f32⟩
  | 46 => ⟨S8192x3x3, .f32⟩
  | 47 => ⟨S8192x3x3, .f32⟩
  | 48 => ⟨S8192x1x3, .f32⟩
  | 49 => ⟨S8192x3, .f32⟩
  | 50 => ⟨S8192x1x3, .f32⟩
  | 51 => ⟨S8192x3, .f32⟩
  | 52 => ⟨S8192x1x3, .f32⟩
  | 53 => ⟨S8192x3, .f32⟩
  | 54 => ⟨S8192x3, .f32⟩
  | 55 => ⟨S_, .f32⟩
  | 56 => ⟨S8192, .f32⟩
  | 57 => ⟨S8192x1, .f32⟩
  | 58 => ⟨S8192x3, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S8192x3, .f32⟩
  | 67 => ⟨S8192x3, .f32⟩
  | 68 => ⟨S8192x3, .f32⟩
  | 69 => ⟨S8192x1x3, .f32⟩
  | 70 => ⟨S8192x3, .f32⟩
  | 71 => ⟨S8192x1x3, .f32⟩
  | 72 => ⟨S8192x3, .f32⟩
  | 73 => ⟨S8192x3, .f32⟩
  | 74 => ⟨S_, .f32⟩
  | 75 => ⟨S8192, .f32⟩
  | 76 => ⟨S8192x1, .f32⟩
  | 77 => ⟨S8192x3, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x3, .f32⟩
  | 86 => ⟨S8192x3, .f32⟩
  | 87 => ⟨S8192x3, .f32⟩
  | 88 => ⟨S8192x1x3, .f32⟩
  | 89 => ⟨S8192x3, .f32⟩
  | 90 => ⟨S8192x3, .f32⟩
  | 91 => ⟨S_, .f32⟩
  | 92 => ⟨S8192, .f32⟩
  | 93 => ⟨S8192x1, .f32⟩
  | 94 => ⟨S8192x3, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S8192x1, .f32⟩
  | 102 => ⟨S8192x3, .f32⟩
  | 103 => ⟨S8192x3, .f32⟩
  | 104 => ⟨S8192x3, .f32⟩
  | 105 => ⟨S8192x1x3, .f32⟩
  | 106 => ⟨S8192x1x3, .f32⟩
  | 107 => ⟨S8192x1x3, .f32⟩
  | 108 => ⟨S8192x3x3, .f32⟩
  | 109 => ⟨S8192x3x3, .f32⟩
  | 110 => ⟨S_, .f32⟩
  | 111 => ⟨S8192x3, .f32⟩
  | 112 => ⟨S8192x3x1, .f32⟩
  | 113 => ⟨S8192x3x1, .f32⟩
  | 114 => ⟨S_, .f32⟩
  | 115 => ⟨S8192x3x1, .f32⟩
  | 116 => ⟨S8192x3x1, .f32⟩
  | 117 => ⟨S8192x3x3, .f32⟩
  | 118 => ⟨S8192x3x3, .f32⟩
  | 119 => ⟨S8192x3x3, .f32⟩
  | 120 => ⟨S8192x3, .f32⟩
  | 121 => ⟨S8192x2048x3, .f32⟩
  | 122 => ⟨S16777216x3, .f32⟩
  | 123 => ⟨S8192x1, .f32⟩
  | 124 => ⟨S1x8192x1x1, .f32⟩
  | 125 => ⟨S2048x8192x1x1, .f32⟩
  | 126 => ⟨S16777216x1, .f32⟩
  | 127 => ⟨S8192x1, .f32⟩
  | _ => ⟨S16777216x3, .f32⟩

abbrev hbmTy0_1 (i : Nat) : BufTy := match i % 128 with
  | 0 => ⟨S1x8192x1x1, .f32⟩
  | 1 => ⟨S2048x8192x1x1, .f32⟩
  | 2 => ⟨S16777216x1, .f32⟩
  | 3 => ⟨S1x8192x1x3, .f32⟩
  | 4 => ⟨S2048x8192x1x3, .f32⟩
  | 5 => ⟨S16777216x3, .f32⟩
  | 6 => ⟨S16777216x3, .f32⟩
  | 7 => ⟨S16777216x3, .f32⟩
  | 8 => ⟨S16777216x3, .f32⟩
  | 9 => ⟨S16777216x3, .f32⟩
  | 10 => ⟨S16777216x3, .f32⟩
  | 11 => ⟨S16777216x3, .f32⟩
  | _ => ⟨S16777216x3, .f32⟩

abbrev hbmTy (i : Nat) : BufTy := match i / 128 with
  | 0 => hbmTy0_0 i
  | 1 => hbmTy0_1 i
  | _ => ⟨S16777216x3, .f32⟩

abbrev bufTy : (tb : Table) → Fin (tcTables nBuf tb) → BufTy
  | .hbm, ⟨i, _⟩ => hbmTy i
  | _, _ => ⟨S16777216x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call1_v0 : Ref sig .tc := ⟨.hbm, 109, rfl⟩
abbrev main_call1_cst : Ref sig .tc := ⟨.hbm, 110, rfl⟩
abbrev main_call1_v1 : Ref sig .tc := ⟨.hbm, 111, rfl⟩
abbrev main_call1_v2 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩

abbrev nD : Nat := 1
abbrev τ : Topo := Topo.v7x

variable {F : FTy → Type} [FloatOps F]
-- ==== Proof.Table.lean ====
/-
  The 1920 by 16 table that the first kernel multiplies by: entry (n, q) is one when q is the number of the 128-row group
  that n lies in, and zero otherwise. The printed literal is a tree of 240 runs of 128 words; the sixteen runs of a group
  are the same run, so that one run of each group is evaluated.
-/
module

public import proofs.«01_k».proof.KernelIdeal
public import Idealize.ShloMosaic.Lib.ValueIdx
public import Idealize.ShloMosaic.PureOps.Ideal.Laws

@[expose] public section

set_option maxRecDepth 16384

noncomputable section

namespace Cert.KernelIdeal.Table

open Cert.KernelIdeal Idealize.ShloMosaic Idealize.ShloMosaic.ValueIdx

/-- The word at position `i` of a run of group `g`: one at the group's column, zero elsewhere. -/
abbrev word (g i : Nat) : BitVec 32 := if i % 16 = g then 0x3F800000#32 else 0x00000000#32

theorem word_mod (g i : Nat) : word g (i % 128) = word g i := by
  unfold word; rw [show i % 128 % 16 = i % 16 by omega]

theorem low {i : Nat} (h : i / 16384 = 0) : lit0t i = lit0t1_0 i := by unfold lit0t; rw [h] <;> rfl
theorem high {i : Nat} (h : i / 16384 = 1) : lit0t i = lit0t1_1 i := by unfold lit0t; rw [h] <;> rfl

/-- The run of group 0, word by word. -/
theorem run0 (i : Nat) : lit0t0_0 i = word 0 i :=
  calc lit0t0_0 i = lit0t0_0 (i % 128) := by unfold lit0t0_0; rw [Nat.mod_mod]
    _ = word 0 (i % 128) := (by decide +kernel : ∀ r : Fin 128, lit0t0_0 r.val = word 0 r.val) ⟨i % 128, Nat.mod_lt _ (by decide)⟩
    _ = word 0 i := word_mod 0 i

/-- The run of group 1, word by word. -/
theorem run1 (i : Nat) : lit0t0_16 i = word 1 i :=
  calc lit0t0_16 i = lit0t0_16 (i % 128) := by unfold lit0t0_16; rw [Nat.mod_mod]
    _ = word 1 (i % 128) := (by decide +kernel : ∀ r : Fin 128, lit0t0_16 r.val = word 1 r.val) ⟨i % 128, Nat.mod_lt _ (by decide)⟩
    _ = word 1 i := word_mod 1 i

/-- The run of group 2, word by word. -/
theorem run2 (i : Nat) : lit0t0_32 i = word 2 i :=
  calc lit0t0_32 i = lit0t0_32 (i % 128) := by unfold lit0t0_32; rw [Nat.mod_mod]
    _ = word 2 (i % 128) := (by decide +kernel : ∀ r : Fin 128, lit0t0_32 r.val = word 2 r.val) ⟨i % 128, Nat.mod_lt _ (by decide)⟩
    _ = word 2 i := word_mod 2 i

/-- The run of group 3, word by word. -/
theorem run3 (i : Nat) : lit0t0_48 i = word 3 i :=
  calc lit0t0_48 i = lit0t0_48 (i % 128) := by unfold lit0t0_48; rw [Nat.mod_mod]
    _ = word 3 (i % 128) := (by decide +kernel : ∀ r : Fin 128, lit0t0_48 r.val = word 3 r.val) ⟨i % 128, Nat.mod_lt _ (by decide)⟩
    _ = word 3 i := word_mod 3 i

/-- The run of group 4, word by word. -/
theorem run4 (i : Nat) : lit0t0_64 i = word 4 i :=
  calc lit0t0_64 i = lit0t0_64 (i % 128) := by unfold lit0t0_64; rw [Nat.mod_mod]
    _ = word 4 (i % 128) := (by decide +kernel : ∀ r : Fin 128, lit0t0_64 r.val = word 4 r.val) ⟨i % 128, Nat.mod_lt _ (by decide)⟩
    _ = word 4 i := word_mod 4 i

/-- The run of group 5, word by word. -/
theorem run5 (i : Nat) : lit0t0_80 i = word 5 i :=
  calc lit0t0_80 i = lit0t0_80 (i % 128) := by unfold lit0t0_80; rw [Nat.mod_mod]
    _ = word 5 (i % 128) := (by decide +kernel : ∀ r : Fin 128, lit0t0_80 r.val = word 5 r.val) ⟨i % 128, Nat.mod_lt _ (by decide)⟩
    _ = word 5 i := word_mod 5 i

/-- The run of group 6, word by word. -/
theorem run6 (i : Nat) : lit0t0_96 i = word 6 i :=
  calc lit0t0_96 i = lit0t0_96 (i % 128) := by unfold lit0t0_96; rw [Nat.mod_mod]
    _ = word 6 (i % 128) := (by decide +kernel : ∀ r : Fin 128, lit0t0_96 r.val = word 6 r.val) ⟨i % 128, Nat.mod_lt _ (by decide)⟩
    _ = word 6 i := word_mod 6 i

/-- The run of group 7, word by word. -/
theorem run7 (i : Nat) : lit0t0_112 i = word 7 i :=
  calc lit0t0_112 i = lit0t0_112 (i % 128) := by unfold lit0t0_112; rw [Nat.mod_mod]
    _ = word 7 (i % 128) := (by decide +kernel : ∀ r : Fin 128, lit0t0_112 r.val = word 7 r.val) ⟨i % 128, Nat.mod_lt _ (by decide)⟩
    _ = word 7 i := word_mod 7 i

/-- The run of group 8, word by word. -/
theorem run8 (i : Nat) : lit0t0_128 i = word 8 i :=
  calc lit0t0_128 i = lit0t0_128 (i % 128) := by unfold lit0t0_128; rw [Nat.mod_mod]
    _ = word 8 (i % 128) := (by decide +kernel : ∀ r : Fin 128, lit0t0_128 r.val = word 8 r.val) ⟨i % 128, Nat.mod_lt _ (by decide)⟩
    _ = word 8 i := word_mod 8 i

/-- The run of group 9, word by word. -/
theorem run9 (i : Nat) : lit0t0_144 i = word 9 i :=
  calc lit0t0_144 i = lit0t0_144 (i % 128) := by unfold lit0t0_144; rw [Nat.mod_mod]
    _ = word 9 (i % 128) := (by decide +kernel : ∀ r : Fin 128, lit0t0_144 r.val = word 9 r.val) ⟨i % 128, Nat.mod_lt _ (by decide)⟩
    _ = word 9 i := word_mod 9 i

/-- The run of group 10, word by word. -/
theorem run10 (i : Nat) : lit0t0_160 i = word 10 i :=
  calc lit0t0_160 i = lit0t0_160 (i % 128) := by unfold lit0t0_160; rw [Nat.mod_mod]
    _ = word 10 (i % 128) := (by decide +kernel : ∀ r : Fin 128, lit0t0_160 r.val = word 10 r.val) ⟨i % 128, Nat.mod_lt _ (by decide)⟩
    _ = word 10 i := word_mod 10 i

/-- The run of group 11, word by word. -/
theorem run11 (i : Nat) : lit0t0_176 i = word 11 i :=
  calc lit0t0_176 i = lit0t0_176 (i % 128) := by unfold lit0t0_176; rw [Nat.mod_mod]
    _ = word 11 (i % 128) := (by decide +kernel : ∀ r : Fin 128, lit0t0_176 r.val = word 11 r.val) ⟨i % 128, Nat.mod_lt _ (by decide)⟩
    _ = word 11 i := word_mod 11 i

/-- The run of group 12, word by word. -/
theorem run12 (i : Nat) : lit0t0_192 i = word 12 i :=
  calc lit0t0_192 i = lit0t0_192 (i % 128) := by unfold lit0t0_192; rw [Nat.mod_mod]
    _ = word 12 (i % 128) := (by decide +kernel : ∀ r : Fin 128, lit0t0_192 r.val = word 12 r.val) ⟨i % 128, Nat.mod_lt _ (by decide)⟩
    _ = word 12 i := word_mod 12 i

/-- The run of group 13, word by word. -/
theorem run13 (i : Nat) : lit0t0_208 i = word 13 i :=
  calc lit0t0_208 i = lit0t0_208 (i % 128) := by unfold lit0t0_208; rw [Nat.mod_mod]
    _ = word 13 (i % 128) := (by decide +kernel : ∀ r : Fin 128, lit0t0_208 r.val = word 13 r.val) ⟨i % 128, Nat.mod_lt _ (by decide)⟩
    _ = word 13 i := word_mod 13 i

/-- The run of group 14, word by word. -/
theorem run14 (i : Nat) : lit0t0_224 i = word 14 i :=
  calc lit0t0_224 i = lit0t0_224 (i % 128) := by unfold lit0t0_224; rw [Nat.mod_mod]
    _ = word 14 (i % 128) := (by decide +kernel : ∀ r : Fin 128, lit0t0_224 r.val = word 14 r.val) ⟨i % 128, Nat.mod_lt _ (by decide)⟩
    _ = word 14 i := word_mod 14 i

theorem at0 (i : Nat) (h : i / 128 = 0) : lit0t i = word 0 i :=
  (low (by omega)).trans ((by unfold lit0t1_0; rw [show i / 128 % 128 = 0 by omega] <;> rfl : lit0t1_0 i = lit0t0_0 i).trans (run0 i))
theorem at1 (i : Nat) (h : i / 128 = 1) : lit0t i = word 0 i :=
  (low (by omega)).trans ((by unfold lit0t1_0; rw [show i / 128 % 128 = 1 by omega] <;> rfl : lit0t1_0 i = lit0t0_1 i).trans (run0 i))
theorem at2 (i : Nat) (h : i / 128 = 2) : lit0t i = word 0 i :=
  (low (by omega)).trans ((by unfold lit0t1_0; rw [show i / 128 % 128 = 2 by omega] <;> rfl : lit0t1_0 i = lit0t0_2 i).trans (run0 i))
theorem at3 (i : Nat) (h : i / 128 = 3) : lit0t i = word 0 i :=
  (low (by omega)).trans ((by unfold lit0t1_0; rw [show i / 128 % 128 = 3 by omega] <;> rfl : lit0t1_0 i = lit0t0_3 i).trans (run0 i))
theorem at4 (i : Nat) (h : i / 128 = 4) : lit0t i = word 0 i :=
  (low (by omega)).trans ((by unfold lit0t1_0; rw [show i / 128 % 128 = 4 by omega] <;> rfl : lit0t1_0 i = lit0t0_4 i).trans (run0 i))
theorem at5 (i : Nat) (h : i / 128 = 5) : lit0t i = word 0 i :=
  (low (by omega)).trans ((by unfold lit0t1_0; rw [show i / 128 % 128 = 5 by omega] <;> rfl : lit0t1_0 i = lit0t0_5 i).trans (run0 i))
theorem at6 (i : Nat) (h : i / 128 = 6) : lit0t i = word 0 i :=
  (low (by omega)).trans ((by unfold lit0t1_0; rw [show i / 128 % 128 = 6 by omega] <;> rfl : lit0t1_0 i = lit0t0_6 i).trans (run0 i))
theorem at7 (i : Nat) (h : i / 128 = 7) : lit0t i = word 0 i :=
  (low (by omega)).trans ((by unfold lit0t1_0; rw [show i / 128 % 128 = 7 by omega] <;> rfl : lit0t1_0 i = lit0t0_7 i).trans (run0 i))
theorem at8 (i : Nat) (h : i / 128 = 8) : lit0t i = word 0 i :=
  (low (by omega)).trans ((by unfold lit0t1_0; rw [show i / 128 % 128 = 8 by omega] <;> rfl : lit0t1_0 i = lit0t0_8 i).trans (run0 i))
theorem at9 (i : Nat) (h : i / 128 = 9) : lit0t i = word 0 i :=
  (low (by omega)).trans ((by unfold lit0t1_0; rw [show i / 128 % 128 = 9 by omega] <;> rfl : lit0t1_0 i = lit0t0_9 i).trans (run0 i))
theorem at10 (i : Nat) (h : i / 128 = 10) : lit0t i = word 0 i :=
  (low (by omega)).trans ((by unfold lit0t1_0; rw [show i / 128 % 128 = 10 by omega] <;> rfl : lit0t1_0 i = lit0t0_10 i).trans (run0 i))
theorem at11 (i : Nat) (h : i / 128 = 11) : lit0t i = word 0 i :=
  (low (by omega)).trans ((by unfold lit0t1_0; rw [show i / 128 % 128 = 11 by omega] <;> rfl : lit0t1_0 i = lit0t0_11 i).trans (run0 i))
theorem at12 (i : Nat) (h : i / 128 = 12) : lit0t i = word 0 i :=
  (low (by omega)).trans ((by unfold lit0t1_0; rw [show i / 128 % 128 = 12 by omega] <;> rfl : lit0t1_0 i = lit0t0_12 i).trans (run0 i))
theorem at13 (i : Nat) (h : i / 128 = 13) : lit0t i = word 0 i :=
  (low (by omega)).trans ((by unfold lit0t1_0; rw [show i / 128 % 128 = 13 by omega] <;> rfl : lit0t1_0 i = lit0t0_13 i).trans (run0 i))
theorem at14 (i : Nat) (h : i / 128 = 14) : lit0t i = word 0 i :=
  (low (by omega)).trans ((by unfold lit0t1_0; rw [show i / 128 % 128 = 14 by omega] <;> rfl : lit0t1_0 i = lit0t0_14 i).trans (run0 i))
theorem at15 (i : Nat) (h : i / 128 = 15) : lit0t i = word 0 i :=
  (low (by omega)).trans ((by unfold lit0t1_0; rw [show i / 128 % 128 = 15 by omega] <;> rfl : lit0t1_0 i = lit0t0_15 i).trans (run0 i))
theorem at16 (i : Nat) (h : i / 128 = 16) : lit0t i = word 1 i :=
  (low (by omega)).trans ((by unfold lit0t1_0; rw [show i / 128 % 128 = 16 by omega] <;> rfl : lit0t1_0 i = lit0t0_16 i).trans (run1 i))
theorem at17 (i : Nat) (h : i / 128 = 17) : lit0t i = word 1 i :=
  (low (by omega)).trans ((by unfold lit0t1_0; rw [show i / 128 % 128 = 17 by omega] <;> rfl : lit0t1_0 i = lit0t0_17 i).trans (run1 i))
theorem at18 (i : Nat) (h : i / 128 = 18) : lit0t i = word 1 i :=
  (low (by omega)).trans ((by unfold lit0t1_0; rw [show i / 128 % 128 = 18 by omega] <;> rfl : lit0t1_0 i = lit0t0_18 i).trans (run1 i))
theorem at19 (i : Nat) (h : i / 128 = 19) : lit0t i = word 1 i :=
  (low (by omega)).trans ((by unfold lit0t1_0; rw [show i / 128 % 128 = 19 by omega] <;> rfl : lit0t1_0 i = lit0t0_19 i).trans (run1 i))
theorem at20 (i : Nat) (h : i / 128 = 20) : lit0t i = word 1 i :=
  (low (by omega)).trans ((by unfold lit0t1_0; rw [show i / 128 % 128 = 20 by omega] <;> rfl : lit0t1_0 i = lit0t0_20 i).trans (run1 i))
theorem at21 (i : Nat) (h : i / 128 = 21) : lit0t i = word 1 i :=
  (low (by omega)).trans ((by unfold lit0t1_0; rw [show i / 128 % 128 = 21 by omega] <;> rfl : lit0t1_0 i = lit0t0_21 i).trans (run1 i))
theorem at22 (i : Nat) (h : i / 128 = 22) : lit0t i = word 1 i :=
  (low (by omega)).trans ((by unfold lit0t1_0; rw [show i / 128 % 128 = 22 by omega] <;> rfl : lit0t1_0 i = lit0t0_22 i).trans (run1 i))
theorem at23 (i : Nat) (h : i / 128 = 23) : lit0t i = word 1 i :=
  (low (by omega)).trans ((by unfold lit0t1_0; rw [show i / 128 % 128 = 23 by omega] <;> rfl : lit0t1_0 i = lit0t0_23 i).trans (run1 i))
theorem at24 (i : Nat) (h : i / 128 = 24) : lit0t i = word 1 i :=
  (low (by omega)).trans ((by unfold lit0t1_0; rw [show i / 128 % 128 = 24 by omega] <;> rfl : lit0t1_0 i = lit0t0_24 i).trans (run1 i))
theorem at25 (i : Nat) (h : i / 128 = 25) : lit0t i = word 1 i :=
  (low (by omega)).trans ((by unfold lit0t1_0; rw [show i / 128 % 128 = 25 by omega] <;> rfl : lit0t1_0 i = lit0t0_25 i).trans (run1 i))
theorem at26 (i : Nat) (h : i / 128 = 26) : lit0t i = word 1 i :=
  (low (by omega)).trans ((by unfold lit0t1_0; rw [show i / 128 % 128 = 26 by omega] <;> rfl : lit0t1_0 i = lit0t0_26 i).trans (run1 i))
theorem at27 (i : Nat) (h : i / 128 = 27) : lit0t i = word 1 i :=
  (low (by omega)).trans ((by unfold lit0t1_0; rw [show i / 128 % 128 = 27 by omega] <;> rfl : lit0t1_0 i = lit0t0_27 i).trans (run1 i))
theorem at28 (i : Nat) (h : i / 128 = 28) : lit0t i = word 1 i :=
  (low (by omega)).trans ((by unfold lit0t1_0; rw [show i / 128 % 128 = 28 by omega] <;> rfl : lit0t1_0 i = lit0t0_28 i).trans (run1 i))
theorem at29 (i : Nat) (h : i / 128 = 29) : lit0t i = word 1 i :=
  (low (by omega)).trans ((by unfold lit0t1_0; rw [show i / 128 % 128 = 29 by omega] <;> rfl : lit0t1_0 i = lit0t0_29 i).trans (run1 i))
theorem at30 (i : Nat) (h : i / 128 = 30) : lit0t i = word 1 i :=
  (low (by omega)).trans ((by unfold lit0t1_0; rw [show i / 128 % 128 = 30 by omega] <;> rfl : lit0t1_0 i = lit0t0_30 i).trans (run1 i))
theorem at31 (i : Nat) (h : i / 128 = 31) : lit0t i = word 1 i :=
  (low (by omega)).trans ((by unfold lit0t1_0; rw [show i / 128 % 128 = 31 by omega] <;> rfl : lit0t1_0 i = lit0t0_31 i).trans (run1 i))
theorem at32 (i : Nat) (h : i / 128 = 32) : lit0t i = word 2 i :=
  (low (by omega)).trans ((by unfold lit0t1_0; rw [show i / 128 % 128 = 32 by omega] <;> rfl : lit0t1_0 i = lit0t0_32 i).trans (run2 i))
theorem at33 (i : Nat) (h : i / 128 = 33) : lit0t i = word 2 i :=
  (low (by omega)).trans ((by unfold lit0t1_0; rw [show i / 128 % 128 = 33 by omega] <;> rfl : lit0t1_0 i = lit0t0_33 i).trans (run2 i))
theorem at34 (i : Nat) (h : i / 128 = 34) : lit0t i = word 2 i :=
  (low (by omega)).trans ((by unfold lit0t1_0; rw [show i / 128 % 128 = 34 by omega] <;> rfl : lit0t1_0 i = lit0t0_34 i).trans (run2 i))
theorem at35 (i : Nat) (h : i / 128 = 35) : lit0t i = word 2 i :=
  (low (by omega)).trans ((by unfold lit0t1_0; rw [show i / 128 % 128 = 35 by omega] <;> rfl : lit0t1_0 i = lit0t0_35 i).trans (run2 i))
theorem at36 (i : Nat) (h : i / 128 = 36) : lit0t i = word 2 i :=
  (low (by omega)).trans ((by unfold lit0t1_0; rw [show i / 128 % 128 = 36 by omega] <;> rfl : lit0t1_0 i = lit0t0_36 i).trans (run2 i))
theorem at37 (i : Nat) (h : i / 128 = 37) : lit0t i = word 2 i :=
  (low (by omega)).trans ((by unfold lit0t1_0; rw [show i / 128 % 128 = 37 by omega] <;> rfl : lit0t1_0 i = lit0t0_37 i).trans (run2 i))
theorem at38 (i : Nat) (h : i / 128 = 38) : lit0t i = word 2 i :=
  (low (by omega)).trans ((by unfold lit0t1_0; rw [show i / 128 % 128 = 38 by omega] <;> rfl : lit0t1_0 i = lit0t0_38 i).trans (run2 i))
theorem at39 (i : Nat) (h : i / 128 = 39) : lit0t i = word 2 i :=
  (low (by omega)).trans ((by unfold lit0t1_0; rw [show i / 128 % 128 = 39 by omega] <;> rfl : lit0t1_0 i = lit0t0_39 i).trans (run2 i))
theorem at40 (i : Nat) (h : i / 128 = 40) : lit0t i = word 2 i :=
  (low (by omega)).trans ((by unfold lit0t1_0; rw [show i / 128 % 128 = 40 by omega] <;> rfl : lit0t1_0 i = lit0t0_40 i).trans (run2 i))
theorem at41 (i : Nat) (h : i / 128 = 41) : lit0t i = word 2 i :=
  (low (by omega)).trans ((by unfold lit0t1_0; rw [show i / 128 % 128 = 41 by omega] <;> rfl : lit0t1_0 i = lit0t0_41 i).trans (run2 i))
theorem at42 (i : Nat) (h : i / 128 = 42) : lit0t i = word 2 i :=
  (low (by omega)).trans ((by unfold lit0t1_0; rw [show i / 128 % 128 = 42 by omega] <;> rfl : lit0t1_0 i = lit0t0_42 i).trans (run2 i))
theorem at43 (i : Nat) (h : i / 128 = 43) : lit0t i = word 2 i :=
  (low (by omega)).trans ((by unfold lit0t1_0; rw [show i / 128 % 128 = 43 by omega] <;> rfl : lit0t1_0 i = lit0t0_43 i).trans (run2 i))
theorem at44 (i : Nat) (h : i / 128 = 44) : lit0t i = word 2 i :=
  (low (by omega)).trans ((by unfold lit0t1_0; rw [show i / 128 % 128 = 44 by omega] <;> rfl : lit0t1_0 i = lit0t0_44 i).trans (run2 i))
theorem at45 (i : Nat) (h : i / 128 = 45) : lit0t i = word 2 i :=
  (low (by omega)).trans ((by unfold lit0t1_0; rw [show i / 128 % 128 = 45 by omega] <;> rfl : lit0t1_0 i = lit0t0_45 i).trans (run2 i))
theorem at46 (i : Nat) (h : i / 128 = 46) : lit0t i = word 2 i :=
  (low (by omega)).trans ((by unfold lit0t1_0; rw [show i / 128 % 128 = 46 by omega] <;> rfl : lit0t1_0 i = lit0t0_46 i).trans (run2 i))
theorem at47 (i : Nat) (h : i / 128 = 47) : lit0t i = word 2 i :=
  (low (by omega)).trans ((by unfold lit0t1_0; rw [show i / 128 % 128 = 47 by omega] <;> rfl : lit0t1_0 i = lit0t0_47 i).trans (run2 i))
theorem at48 (i : Nat) (h : i / 128 = 48) : lit0t i = word 3 i :=
  (low (by omega)).trans ((by unfold lit0t1_0; rw [show i / 128 % 128 = 48 by omega] <;> rfl : lit0t1_0 i = lit0t0_48 i).trans (run3 i))
theorem at49 (i : Nat) (h : i / 128 = 49) : lit0t i = word 3 i :=
  (low (by omega)).trans ((by unfold lit0t1_0; rw [show i / 128 % 128 = 49 by omega] <;> rfl : lit0t1_0 i = lit0t0_49 i).trans (run3 i))
theorem at50 (i : Nat) (h : i / 128 = 50) : lit0t i = word 3 i :=
  (low (by omega)).trans ((by unfold lit0t1_0; rw [show i / 128 % 128 = 50 by omega] <;> rfl : lit0t1_0 i = lit0t0_50 i).trans (run3 i))
theorem at51 (i : Nat) (h : i / 128 = 51) : lit0t i = word 3 i :=
  (low (by omega)).trans ((by unfold lit0t1_0; rw [show i / 128 % 128 = 51 by omega] <;> rfl : lit0t1_0 i = lit0t0_51 i).trans (run3 i))
theorem at52 (i : Nat) (h : i / 128 = 52) : lit0t i = word 3 i :=
  (low (by omega)).trans ((by unfold lit0t1_0; rw [show i / 128 % 128 = 52 by omega] <;> rfl : lit0t1_0 i = lit0t0_52 i).trans (run3 i))
theorem at53 (i : Nat) (h : i / 128 = 53) : lit0t i = word 3 i :=
  (low (by omega)).trans ((by unfold lit0t1_0; rw [show i / 128 % 128 = 53 by omega] <;> rfl : lit0t1_0 i = lit0t0_53 i).trans (run3 i))
theorem at54 (i : Nat) (h : i / 128 = 54) : lit0t i = word 3 i :=
  (low (by omega)).trans ((by unfold lit0t1_0; rw [show i / 128 % 128 = 54 by omega] <;> rfl : lit0t1_0 i = lit0t0_54 i).trans (run3 i))
theorem at55 (i : Nat) (h : i / 128 = 55) : lit0t i = word 3 i :=
  (low (by omega)).trans ((by unfold lit0t1_0; rw [show i / 128 % 128 = 55 by omega] <;> rfl : lit0t1_0 i = lit0t0_55 i).trans (run3 i))
theorem at56 (i : Nat) (h : i / 128 = 56) : lit0t i = word 3 i :=
  (low (by omega)).trans ((by unfold lit0t1_0; rw [show i / 128 % 128 = 56 by omega] <;> rfl : lit0t1_0 i = lit0t0_56 i).trans (run3 i))
theorem at57 (i : Nat) (h : i / 128 = 57) : lit0t i = word 3 i :=
  (low (by omega)).trans ((by unfold lit0t1_0; rw [show i / 128 % 128 = 57 by omega] <;> rfl : lit0t1_0 i = lit0t0_57 i).trans (run3 i))
theorem at58 (i : Nat) (h : i / 128 = 58) : lit0t i = word 3 i :=
  (low (by omega)).trans ((by unfold lit0t1_0; rw [show i / 128 % 128 = 58 by omega] <;> rfl : lit0t1_0 i = lit0t0_58 i).trans (run3 i))
theorem at59 (i : Nat) (h : i / 128 = 59) : lit0t i = word 3 i :=
  (low (by omega)).trans ((by unfold lit0t1_0; rw [show i / 128 % 128 = 59 by omega] <;> rfl : lit0t1_0 i = lit0t0_59 i).trans (run3 i))
theorem at60 (i : Nat) (h : i / 128 = 60) : lit0t i = word 3 i :=
  (low (by omega)).trans ((by unfold lit0t1_0; rw [show i / 128 % 128 = 60 by omega] <;> rfl : lit0t1_0 i = lit0t0_60 i).trans (run3 i))
theorem at61 (i : Nat) (h : i / 128 = 61) : lit0t i = word 3 i :=
  (low (by omega)).trans ((by unfold lit0t1_0; rw [show i / 128 % 128 = 61 by omega] <;> rfl : lit0t1_0 i = lit0t0_61 i).trans (run3 i))
theorem at62 (i : Nat) (h : i / 128 = 62) : lit0t i = word 3 i :=
  (low (by omega)).trans ((by unfold lit0t1_0; rw [show i / 128 % 128 = 62 by omega] <;> rfl : lit0t1_0 i = lit0t0_62 i).trans (run3 i))
theorem at63 (i : Nat) (h : i / 128 = 63) : lit0t i = word 3 i :=
  (low (by omega)).trans ((by unfold lit0t1_0; rw [show i / 128 % 128 = 63 by omega] <;> rfl : lit0t1_0 i = lit0t0_63 i).trans (run3 i))
theorem at64 (i : Nat) (h : i / 128 = 64) : lit0t i = word 4 i :=
  (low (by omega)).trans ((by unfold lit0t1_0; rw [show i / 128 % 128 = 64 by omega] <;> rfl : lit0t1_0 i = lit0t0_64 i).trans (run4 i))
theorem at65 (i : Nat) (h : i / 128 = 65) : lit0t i = word 4 i :=
  (low (by omega)).trans ((by unfold lit0t1_0; rw [show i / 128 % 128 = 65 by omega] <;> rfl : lit0t1_0 i = lit0t0_65 i).trans (run4 i))
theorem at66 (i : Nat) (h : i / 128 = 66) : lit0t i = word 4 i :=
  (low (by omega)).trans ((by unfold lit0t1_0; rw [show i / 128 % 128 = 66 by omega] <;> rfl : lit0t1_0 i = lit0t0_66 i).trans (run4 i))
theorem at67 (i : Nat) (h : i / 128 = 67) : lit0t i = word 4 i :=
  (low (by omega)).trans ((by unfold lit0t1_0; rw [show i / 128 % 128 = 67 by omega] <;> rfl : lit0t1_0 i = lit0t0_67 i).trans (run4 i))
theorem at68 (i : Nat) (h : i / 128 = 68) : lit0t i = word 4 i :=
  (low (by omega)).trans ((by unfold lit0t1_0; rw [show i / 128 % 128 = 68 by omega] <;> rfl : lit0t1_0 i = lit0t0_68 i).trans (run4 i))
theorem at69 (i : Nat) (h : i / 128 = 69) : lit0t i = word 4 i :=
  (low (by omega)).trans ((by unfold lit0t1_0; rw [show i / 128 % 128 = 69 by omega] <;> rfl : lit0t1_0 i = lit0t0_69 i).trans (run4 i))
theorem at70 (i : Nat) (h : i / 128 = 70) : lit0t i = word 4 i :=
  (low (by omega)).trans ((by unfold lit0t1_0; rw [show i / 128 % 128 = 70 by omega] <;> rfl : lit0t1_0 i = lit0t0_70 i).trans (run4 i))
theorem at71 (i : Nat) (h : i / 128 = 71) : lit0t i = word 4 i :=
  (low (by omega)).trans ((by unfold lit0t1_0; rw [show i / 128 % 128 = 71 by omega] <;> rfl : lit0t1_0 i = lit0t0_71 i).trans (run4 i))
theorem at72 (i : Nat) (h : i / 128 = 72) : lit0t i = word 4 i :=
  (low (by omega)).trans ((by unfold lit0t1_0; rw [show i / 128 % 128 = 72 by omega] <;> rfl : lit0t1_0 i = lit0t0_72 i).trans (run4 i))
theorem at73 (i : Nat) (h : i / 128 = 73) : lit0t i = word 4 i :=
  (low (by omega)).trans ((by unfold lit0t1_0; rw [show i / 128 % 128 = 73 by omega] <;> rfl : lit0t1_0 i = lit0t0_73 i).trans (run4 i))
theorem at74 (i : Nat) (h : i / 128 = 74) : lit0t i = word 4 i :=
  (low (by omega)).trans ((by unfold lit0t1_0; rw [show i / 128 % 128 = 74 by omega] <;> rfl : lit0t1_0 i = lit0t0_74 i).trans (run4 i))
theorem at75 (i : Nat) (h : i / 128 = 75) : lit0t i = word 4 i :=
  (low (by omega)).trans ((by unfold lit0t1_0; rw [show i / 128 % 128 = 75 by omega] <;> rfl : lit0t1_0 i = lit0t0_75 i).trans (run4 i))
theorem at76 (i : Nat) (h : i / 128 = 76) : lit0t i = word 4 i :=
  (low (by omega)).trans ((by unfold lit0t1_0; rw [show i / 128 % 128 = 76 by omega] <;> rfl : lit0t1_0 i = lit0t0_76 i).trans (run4 i))
theorem at77 (i : Nat) (h : i / 128 = 77) : lit0t i = word 4 i :=
  (low (by omega)).trans ((by unfold lit0t1_0; rw [show i / 128 % 128 = 77 by omega] <;> rfl : lit0t1_0 i = lit0t0_77 i).trans (run4 i))
theorem at78 (i : Nat) (h : i / 128 = 78) : lit0t i = word 4 i :=
  (low (by omega)).trans ((by unfold lit0t1_0; rw [show i / 128 % 128 = 78 by omega] <;> rfl : lit0t1_0 i = lit0t0_78 i).trans (run4 i))
theorem at79 (i : Nat) (h : i / 128 = 79) : lit0t i = word 4 i :=
  (low (by omega)).trans ((by unfold lit0t1_0; rw [show i / 128 % 128 = 79 by omega] <;> rfl : lit0t1_0 i = lit0t0_79 i).trans (run4 i))
theorem at80 (i : Nat) (h : i / 128 = 80) : lit0t i = word 5 i :=
  (low (by omega)).trans ((by unfold lit0t1_0; rw [show i / 128 % 128 = 80 by omega] <;> rfl : lit0t1_0 i = lit0t0_80 i).trans (run5 i))
theorem at81 (i : Nat) (h : i / 128 = 81) : lit0t i = word 5 i :=
  (low (by omega)).trans ((by unfold lit0t1_0; rw [show i / 128 % 128 = 81 by omega] <;> rfl : lit0t1_0 i = lit0t0_81 i).trans (run5 i))
theorem at82 (i : Nat) (h : i / 128 = 82) : lit0t i = word 5 i :=
  (low (by omega)).trans ((by unfold lit0t1_0; rw [show i / 128 % 128 = 82 by omega] <;> rfl : lit0t1_0 i = lit0t0_82 i).trans (run5 i))
theorem at83 (i : Nat) (h : i / 128 = 83) : lit0t i = word 5 i :=
  (low (by omega)).trans ((by unfold lit0t1_0; rw [show i / 128 % 128 = 83 by omega] <;> rfl : lit0t1_0 i = lit0t0_83 i).trans (run5 i))
theorem at84 (i : Nat) (h : i / 128 = 84) : lit0t i = word 5 i :=
  (low (by omega)).trans ((by unfold lit0t1_0; rw [show i / 128 % 128 = 84 by omega] <;> rfl : lit0t1_0 i = lit0t0_84 i).trans (run5 i))
theorem at85 (i : Nat) (h : i / 128 = 85) : lit0t i = word 5 i :=
  (low (by omega)).trans ((by unfold lit0t1_0; rw [show i / 128 % 128 = 85 by omega] <;> rfl : lit0t1_0 i = lit0t0_85 i).trans (run5 i))
theorem at86 (i : Nat) (h : i / 128 = 86) : lit0t i = word 5 i :=
  (low (by omega)).trans ((by unfold lit0t1_0; rw [show i / 128 % 128 = 86 by omega] <;> rfl : lit0t1_0 i = lit0t0_86 i).trans (run5 i))
theorem at87 (i : Nat) (h : i / 128 = 87) : lit0t i = word 5 i :=
  (low (by omega)).trans ((by unfold lit0t1_0; rw [show i / 128 % 128 = 87 by omega] <;> rfl : lit0t1_0 i = lit0t0_87 i).trans (run5 i))
theorem at88 (i : Nat) (h : i / 128 = 88) : lit0t i = word 5 i :=
  (low (by omega)).trans ((by unfold lit0t1_0; rw [show i / 128 % 128 = 88 by omega] <;> rfl : lit0t1_0 i = lit0t0_88 i).trans (run5 i))
theorem at89 (i : Nat) (h : i / 128 = 89) : lit0t i = word 5 i :=
  (low (by omega)).trans ((by unfold lit0t1_0; rw [show i / 128 % 128 = 89 by omega] <;> rfl : lit0t1_0 i = lit0t0_89 i).trans (run5 i))
theorem at90 (i : Nat) (h : i / 128 = 90) : lit0t i = word 5 i :=
  (low (by omega)).trans ((by unfold lit0t1_0; rw [show i / 128 % 128 = 90 by omega] <;> rfl : lit0t1_0 i = lit0t0_90 i).trans (run5 i))
theorem at91 (i : Nat) (h : i / 128 = 91) : lit0t i = word 5 i :=
  (low (by omega)).trans ((by unfold lit0t1_0; rw [show i / 128 % 128 = 91 by omega] <;> rfl : lit0t1_0 i = lit0t0_91 i).trans (run5 i))
theorem at92 (i : Nat) (h : i / 128 = 92) : lit0t i = word 5 i :=
  (low (by omega)).trans ((by unfold lit0t1_0; rw [show i / 128 % 128 = 92 by omega] <;> rfl : lit0t1_0 i = lit0t0_92 i).trans (run5 i))
theorem at93 (i : Nat) (h : i / 128 = 93) : lit0t i = word 5 i :=
  (low (by omega)).trans ((by unfold lit0t1_0; rw [show i / 128 % 128 = 93 by omega] <;> rfl : lit0t1_0 i = lit0t0_93 i).trans (run5 i))
theorem at94 (i : Nat) (h : i / 128 = 94) : lit0t i = word 5 i :=
  (low (by omega)).trans ((by unfold lit0t1_0; rw [show i / 128 % 128 = 94 by omega] <;> rfl : lit0t1_0 i = lit0t0_94 i).trans (run5 i))
theorem at95 (i : Nat) (h : i / 128 = 95) : lit0t i = word 5 i :=
  (low (by omega)).trans ((by unfold lit0t1_0; rw [show i / 128 % 128 = 95 by omega] <;> rfl : lit0t1_0 i = lit0t0_95 i).trans (run5 i))
theorem at96 (i : Nat) (h : i / 128 = 96) : lit0t i = word 6 i :=
  (low (by omega)).trans ((by unfold lit0t1_0; rw [show i / 128 % 128 = 96 by omega] <;> rfl : lit0t1_0 i = lit0t0_96 i).trans (run6 i))
theorem at97 (i : Nat) (h : i / 128 = 97) : lit0t i = word 6 i :=
  (low (by omega)).trans ((by unfold lit0t1_0; rw [show i / 128 % 128 = 97 by omega] <;> rfl : lit0t1_0 i = lit0t0_97 i).trans (run6 i))
theorem at98 (i : Nat) (h : i / 128 = 98) : lit0t i = word 6 i :=
  (low (by omega)).trans ((by unfold lit0t1_0; rw [show i / 128 % 128 = 98 by omega] <;> rfl : lit0t1_0 i = lit0t0_98 i).trans (run6 i))
theorem at99 (i : Nat) (h : i / 128 = 99) : lit0t i = word 6 i :=
  (low (by omega)).trans ((by unfold lit0t1_0; rw [show i / 128 % 128 = 99 by omega] <;> rfl : lit0t1_0 i = lit0t0_99 i).trans (run6 i))
theorem at100 (i : Nat) (h : i / 128 = 100) : lit0t i = word 6 i :=
  (low (by omega)).trans ((by unfold lit0t1_0; rw [show i / 128 % 128 = 100 by omega] <;> rfl : lit0t1_0 i = lit0t0_100 i).trans (run6 i))
theorem at101 (i : Nat) (h : i / 128 = 101) : lit0t i = word 6 i :=
  (low (by omega)).trans ((by unfold lit0t1_0; rw [show i / 128 % 128 = 101 by omega] <;> rfl : lit0t1_0 i = lit0t0_101 i).trans (run6 i))
theorem at102 (i : Nat) (h : i / 128 = 102) : lit0t i = word 6 i :=
  (low (by omega)).trans ((by unfold lit0t1_0; rw [show i / 128 % 128 = 102 by omega] <;> rfl : lit0t1_0 i = lit0t0_102 i).trans (run6 i))
theorem at103 (i : Nat) (h : i / 128 = 103) : lit0t i = word 6 i :=
  (low (by omega)).trans ((by unfold lit0t1_0; rw [show i / 128 % 128 = 103 by omega] <;> rfl : lit0t1_0 i = lit0t0_103 i).trans (run6 i))
theorem at104 (i : Nat) (h : i / 128 = 104) : lit0t i = word 6 i :=
  (low (by omega)).trans ((by unfold lit0t1_0; rw [show i / 128 % 128 = 104 by omega] <;> rfl : lit0t1_0 i = lit0t0_104 i).trans (run6 i))
theorem at105 (i : Nat) (h : i / 128 = 105) : lit0t i = word 6 i :=
  (low (by omega)).trans ((by unfold lit0t1_0; rw [show i / 128 % 128 = 105 by omega] <;> rfl : lit0t1_0 i = lit0t0_105 i).trans (run6 i))
theorem at106 (i : Nat) (h : i / 128 = 106) : lit0t i = word 6 i :=
  (low (by omega)).trans ((by unfold lit0t1_0; rw [show i / 128 % 128 = 106 by omega] <;> rfl : lit0t1_0 i = lit0t0_106 i).trans (run6 i))
theorem at107 (i : Nat) (h : i / 128 = 107) : lit0t i = word 6 i :=
  (low (by omega)).trans ((by unfold lit0t1_0; rw [show i / 128 % 128 = 107 by omega] <;> rfl : lit0t1_0 i = lit0t0_107 i).trans (run6 i))
theorem at108 (i : Nat) (h : i / 128 = 108) : lit0t i = word 6 i :=
  (low (by omega)).trans ((by unfold lit0t1_0; rw [show i / 128 % 128 = 108 by omega] <;> rfl : lit0t1_0 i = lit0t0_108 i).trans (run6 i))
theorem at109 (i : Nat) (h : i / 128 = 109) : lit0t i = word 6 i :=
  (low (by omega)).trans ((by unfold lit0t1_0; rw [show i / 128 % 128 = 109 by omega] <;> rfl : lit0t1_0 i = lit0t0_109 i).trans (run6 i))
theorem at110 (i : Nat) (h : i / 128 = 110) : lit0t i = word 6 i :=
  (low (by omega)).trans ((by unfold lit0t1_0; rw [show i / 128 % 128 = 110 by omega] <;> rfl : lit0t1_0 i = lit0t0_110 i).trans (run6 i))
theorem at111 (i : Nat) (h : i / 128 = 111) : lit0t i = word 6 i :=
  (low (by omega)).trans ((by unfold lit0t1_0; rw [show i / 128 % 128 = 111 by omega] <;> rfl : lit0t1_0 i = lit0t0_111 i).trans (run6 i))
theorem at112 (i : Nat) (h : i / 128 = 112) : lit0t i = word 7 i :=
  (low (by omega)).trans ((by unfold lit0t1_0; rw [show i / 128 % 128 = 112 by omega] <;> rfl : lit0t1_0 i = lit0t0_112 i).trans (run7 i))
theorem at113 (i : Nat) (h : i / 128 = 113) : lit0t i = word 7 i :=
  (low (by omega)).trans ((by unfold lit0t1_0; rw [show i / 128 % 128 = 113 by omega] <;> rfl : lit0t1_0 i = lit0t0_113 i).trans (run7 i))
theorem at114 (i : Nat) (h : i / 128 = 114) : lit0t i = word 7 i :=
  (low (by omega)).trans ((by unfold lit0t1_0; rw [show i / 128 % 128 = 114 by omega] <;> rfl : lit0t1_0 i = lit0t0_114 i).trans (run7 i))
theorem at115 (i : Nat) (h : i / 128 = 115) : lit0t i = word 7 i :=
  (low (by omega)).trans ((by unfold lit0t1_0; rw [show i / 128 % 128 = 115 by omega] <;> rfl : lit0t1_0 i = lit0t0_115 i).trans (run7 i))
theorem at116 (i : Nat) (h : i / 128 = 116) : lit0t i = word 7 i :=
  (low (by omega)).trans ((by unfold lit0t1_0; rw [show i / 128 % 128 = 116 by omega] <;> rfl : lit0t1_0 i = lit0t0_116 i).trans (run7 i))
theorem at117 (i : Nat) (h : i / 128 = 117) : lit0t i = word 7 i :=
  (low (by omega)).trans ((by unfold lit0t1_0; rw [show i / 128 % 128 = 117 by omega] <;> rfl : lit0t1_0 i = lit0t0_117 i).trans (run7 i))
theorem at118 (i : Nat) (h : i / 128 = 118) : lit0t i = word 7 i :=
  (low (by omega)).trans ((by unfold lit0t1_0; rw [show i / 128 % 128 = 118 by omega] <;> rfl : lit0t1_0 i = lit0t0_118 i).trans (run7 i))
theorem at119 (i : Nat) (h : i / 128 = 119) : lit0t i = word 7 i :=
  (low (by omega)).trans ((by unfold lit0t1_0; rw [show i / 128 % 128 = 119 by omega] <;> rfl : lit0t1_0 i = lit0t0_119 i).trans (run7 i))
theorem at120 (i : Nat) (h : i / 128 = 120) : lit0t i = word 7 i :=
  (low (by omega)).trans ((by unfold lit0t1_0; rw [show i / 128 % 128 = 120 by omega] <;> rfl : lit0t1_0 i = lit0t0_120 i).trans (run7 i))
theorem at121 (i : Nat) (h : i / 128 = 121) : lit0t i = word 7 i :=
  (low (by omega)).trans ((by unfold lit0t1_0; rw [show i / 128 % 128 = 121 by omega] <;> rfl : lit0t1_0 i = lit0t0_121 i).trans (run7 i))
theorem at122 (i : Nat) (h : i / 128 = 122) : lit0t i = word 7 i :=
  (low (by omega)).trans ((by unfold lit0t1_0; rw [show i / 128 % 128 = 122 by omega] <;> rfl : lit0t1_0 i = lit0t0_122 i).trans (run7 i))
theorem at123 (i : Nat) (h : i / 128 = 123) : lit0t i = word 7 i :=
  (low (by omega)).trans ((by unfold lit0t1_0; rw [show i / 128 % 128 = 123 by omega] <;> rfl : lit0t1_0 i = lit0t0_123 i).trans (run7 i))
theorem at124 (i : Nat) (h : i / 128 = 124) : lit0t i = word 7 i :=
  (low (by omega)).trans ((by unfold lit0t1_0; rw [show i / 128 % 128 = 124 by omega] <;> rfl : lit0t1_0 i = lit0t0_124 i).trans (run7 i))
theorem at125 (i : Nat) (h : i / 128 = 125) : lit0t i = word 7 i :=
  (low (by omega)).trans ((by unfold lit0t1_0; rw [show i / 128 % 128 = 125 by omega] <;> rfl : lit0t1_0 i = lit0t0_125 i).trans (run7 i))
theorem at126 (i : Nat) (h : i / 128 = 126) : lit0t i = word 7 i :=
  (low (by omega)).trans ((by unfold lit0t1_0; rw [show i / 128 % 128 = 126 by omega] <;> rfl : lit0t1_0 i = lit0t0_126 i).trans (run7 i))
theorem at127 (i : Nat) (h : i / 128 = 127) : lit0t i = word 7 i :=
  (low (by omega)).trans ((by unfold lit0t1_0; rw [show i / 128 % 128 = 127 by omega] <;> rfl : lit0t1_0 i = lit0t0_127 i).trans (run7 i))
theorem at128 (i : Nat) (h : i / 128 = 128) : lit0t i = word 8 i :=
  (high (by omega)).trans ((by unfold lit0t1_1; rw [show i / 128 % 128 = 0 by omega] <;> rfl : lit0t1_1 i = lit0t0_128 i).trans (run8 i))
theorem at129 (i : Nat) (h : i / 128 = 129) : lit0t i = word 8 i :=
  (high (by omega)).trans ((by unfold lit0t1_1; rw [show i / 128 % 128 = 1 by omega] <;> rfl : lit0t1_1 i = lit0t0_129 i).trans (run8 i))
theorem at130 (i : Nat) (h : i / 128 = 130) : lit0t i = word 8 i :=
  (high (by omega)).trans ((by unfold lit0t1_1; rw [show i / 128 % 128 = 2 by omega] <;> rfl : lit0t1_1 i = lit0t0_130 i).trans (run8 i))
theorem at131 (i : Nat) (h : i / 128 = 131) : lit0t i = word 8 i :=
  (high (by omega)).trans ((by unfold lit0t1_1; rw [show i / 128 % 128 = 3 by omega] <;> rfl : lit0t1_1 i = lit0t0_131 i).trans (run8 i))
theorem at132 (i : Nat) (h : i / 128 = 132) : lit0t i = word 8 i :=
  (high (by omega)).trans ((by unfold lit0t1_1; rw [show i / 128 % 128 = 4 by omega] <;> rfl : lit0t1_1 i = lit0t0_132 i).trans (run8 i))
theorem at133 (i : Nat) (h : i / 128 = 133) : lit0t i = word 8 i :=
  (high (by omega)).trans ((by unfold lit0t1_1; rw [show i / 128 % 128 = 5 by omega] <;> rfl : lit0t1_1 i = lit0t0_133 i).trans (run8 i))
theorem at134 (i : Nat) (h : i / 128 = 134) : lit0t i = word 8 i :=
  (high (by omega)).trans ((by unfold lit0t1_1; rw [show i / 128 % 128 = 6 by omega] <;> rfl : lit0t1_1 i = lit0t0_134 i).trans (run8 i))
theorem at135 (i : Nat) (h : i / 128 = 135) : lit0t i = word 8 i :=
  (high (by omega)).trans ((by unfold lit0t1_1; rw [show i / 128 % 128 = 7 by omega] <;> rfl : lit0t1_1 i = lit0t0_135 i).trans (run8 i))
theorem at136 (i : Nat) (h : i / 128 = 136) : lit0t i = word 8 i :=
  (high (by omega)).trans ((by unfold lit0t1_1; rw [show i / 128 % 128 = 8 by omega] <;> rfl : lit0t1_1 i = lit0t0_136 i).trans (run8 i))
theorem at137 (i : Nat) (h : i / 128 = 137) : lit0t i = word 8 i :=
  (high (by omega)).trans ((by unfold lit0t1_1; rw [show i / 128 % 128 = 9 by omega] <;> rfl : lit0t1_1 i = lit0t0_137 i).trans (run8 i))
theorem at138 (i : Nat) (h : i / 128 = 138) : lit0t i = word 8 i :=
  (high (by omega)).trans ((by unfold lit0t1_1; rw [show i / 128 % 128 = 10 by omega] <;> rfl : lit0t1_1 i = lit0t0_138 i).trans (run8 i))
theorem at139 (i : Nat) (h : i / 128 = 139) : lit0t i = word 8 i :=
  (high (by omega)).trans ((by unfold lit0t1_1; rw [show i / 128 % 128 = 11 by omega] <;> rfl : lit0t1_1 i = lit0t0_139 i).trans (run8 i))
theorem at140 (i : Nat) (h : i / 128 = 140) : lit0t i = word 8 i :=
  (high (by omega)).trans ((by unfold lit0t1_1; rw [show i / 128 % 128 = 12 by omega] <;> rfl : lit0t1_1 i = lit0t0_140 i).trans (run8 i))
theorem at141 (i : Nat) (h : i / 128 = 141) : lit0t i = word 8 i :=
  (high (by omega)).trans ((by unfold lit0t1_1; rw [show i / 128 % 128 = 13 by omega] <;> rfl : lit0t1_1 i = lit0t0_141 i).trans (run8 i))
theorem at142 (i : Nat) (h : i / 128 = 142) : lit0t i = word 8 i :=
  (high (by omega)).trans ((by unfold lit0t1_1; rw [show i / 128 % 128 = 14 by omega] <;> rfl : lit0t1_1 i = lit0t0_142 i).trans (run8 i))
theorem at143 (i : Nat) (h : i / 128 = 143) : lit0t i = word 8 i :=
  (high (by omega)).trans ((by unfold lit0t1_1; rw [show i / 128 % 128 = 15 by omega] <;> rfl : lit0t1_1 i = lit0t0_143 i).trans (run8 i))
theorem at144 (i : Nat) (h : i / 128 = 144) : lit0t i = word 9 i :=
  (high (by omega)).trans ((by unfold lit0t1_1; rw [show i / 128 % 128 = 16 by omega] <;> rfl : lit0t1_1 i = lit0t0_144 i).trans (run9 i))
theorem at145 (i : Nat) (h : i / 128 = 145) : lit0t i = word 9 i :=
  (high (by omega)).trans ((by unfold lit0t1_1; rw [show i / 128 % 128 = 17 by omega] <;> rfl : lit0t1_1 i = lit0t0_145 i).trans (run9 i))
theorem at146 (i : Nat) (h : i / 128 = 146) : lit0t i = word 9 i :=
  (high (by omega)).trans ((by unfold lit0t1_1; rw [show i / 128 % 128 = 18 by omega] <;> rfl : lit0t1_1 i = lit0t0_146 i).trans (run9 i))
theorem at147 (i : Nat) (h : i / 128 = 147) : lit0t i = word 9 i :=
  (high (by omega)).trans ((by unfold lit0t1_1; rw [show i / 128 % 128 = 19 by omega] <;> rfl : lit0t1_1 i = lit0t0_147 i).trans (run9 i))
theorem at148 (i : Nat) (h : i / 128 = 148) : lit0t i = word 9 i :=
  (high (by omega)).trans ((by unfold lit0t1_1; rw [show i / 128 % 128 = 20 by omega] <;> rfl : lit0t1_1 i = lit0t0_148 i).trans (run9 i))
theorem at149 (i : Nat) (h : i / 128 = 149) : lit0t i = word 9 i :=
  (high (by omega)).trans ((by unfold lit0t1_1; rw [show i / 128 % 128 = 21 by omega] <;> rfl : lit0t1_1 i = lit0t0_149 i).trans (run9 i))
theorem at150 (i : Nat) (h : i / 128 = 150) : lit0t i = word 9 i :=
  (high (by omega)).trans ((by unfold lit0t1_1; rw [show i / 128 % 128 = 22 by omega] <;> rfl : lit0t1_1 i = lit0t0_150 i).trans (run9 i))
theorem at151 (i : Nat) (h : i / 128 = 151) : lit0t i = word 9 i :=
  (high (by omega)).trans ((by unfold lit0t1_1; rw [show i / 128 % 128 = 23 by omega] <;> rfl : lit0t1_1 i = lit0t0_151 i).trans (run9 i))
theorem at152 (i : Nat) (h : i / 128 = 152) : lit0t i = word 9 i :=
  (high (by omega)).trans ((by unfold lit0t1_1; rw [show i / 128 % 128 = 24 by omega] <;> rfl : lit0t1_1 i = lit0t0_152 i).trans (run9 i))
theorem at153 (i : Nat) (h : i / 128 = 153) : lit0t i = word 9 i :=
  (high (by omega)).trans ((by unfold lit0t1_1; rw [show i / 128 % 128 = 25 by omega] <;> rfl : lit0t1_1 i = lit0t0_153 i).trans (run9 i))
theorem at154 (i : Nat) (h : i / 128 = 154) : lit0t i = word 9 i :=
  (high (by omega)).trans ((by unfold lit0t1_1; rw [show i / 128 % 128 = 26 by omega] <;> rfl : lit0t1_1 i = lit0t0_154 i).trans (run9 i))
theorem at155 (i : Nat) (h : i / 128 = 155) : lit0t i = word 9 i :=
  (high (by omega)).trans ((by unfold lit0t1_1; rw [show i / 128 % 128 = 27 by omega] <;> rfl : lit0t1_1 i = lit0t0_155 i).trans (run9 i))
theorem at156 (i : Nat) (h : i / 128 = 156) : lit0t i = word 9 i :=
  (high (by omega)).trans ((by unfold lit0t1_1; rw [show i / 128 % 128 = 28 by omega] <;> rfl : lit0t1_1 i = lit0t0_156 i).trans (run9 i))
theorem at157 (i : Nat) (h : i / 128 = 157) : lit0t i = word 9 i :=
  (high (by omega)).trans ((by unfold lit0t1_1; rw [show i / 128 % 128 = 29 by omega] <;> rfl : lit0t1_1 i = lit0t0_157 i).trans (run9 i))
theorem at158 (i : Nat) (h : i / 128 = 158) : lit0t i = word 9 i :=
  (high (by omega)).trans ((by unfold lit0t1_1; rw [show i / 128 % 128 = 30 by omega] <;> rfl : lit0t1_1 i = lit0t0_158 i).trans (run9 i))
theorem at159 (i : Nat) (h : i / 128 = 159) : lit0t i = word 9 i :=
  (high (by omega)).trans ((by unfold lit0t1_1; rw [show i / 128 % 128 = 31 by omega] <;> rfl : lit0t1_1 i = lit0t0_159 i).trans (run9 i))
theorem at160 (i : Nat) (h : i / 128 = 160) : lit0t i = word 10 i :=
  (high (by omega)).trans ((by unfold lit0t1_1; rw [show i / 128 % 128 = 32 by omega] <;> rfl : lit0t1_1 i = lit0t0_160 i).trans (run10 i))
theorem at161 (i : Nat) (h : i / 128 = 161) : lit0t i = word 10 i :=
  (high (by omega)).trans ((by unfold lit0t1_1; rw [show i / 128 % 128 = 33 by omega] <;> rfl : lit0t1_1 i = lit0t0_161 i).trans (run10 i))
theorem at162 (i : Nat) (h : i / 128 = 162) : lit0t i = word 10 i :=
  (high (by omega)).trans ((by unfold lit0t1_1; rw [show i / 128 % 128 = 34 by omega] <;> rfl : lit0t1_1 i = lit0t0_162 i).trans (run10 i))
theorem at163 (i : Nat) (h : i / 128 = 163) : lit0t i = word 10 i :=
  (high (by omega)).trans ((by unfold lit0t1_1; rw [show i / 128 % 128 = 35 by omega] <;> rfl : lit0t1_1 i = lit0t0_163 i).trans (run10 i))
theorem at164 (i : Nat) (h : i / 128 = 164) : lit0t i = word 10 i :=
  (high (by omega)).trans ((by unfold lit0t1_1; rw [show i / 128 % 128 = 36 by omega] <;> rfl : lit0t1_1 i = lit0t0_164 i).trans (run10 i))
theorem at165 (i : Nat) (h : i / 128 = 165) : lit0t i = word 10 i :=
  (high (by omega)).trans ((by unfold lit0t1_1; rw [show i / 128 % 128 = 37 by omega] <;> rfl : lit0t1_1 i = lit0t0_165 i).trans (run10 i))
theorem at166 (i : Nat) (h : i / 128 = 166) : lit0t i = word 10 i :=
  (high (by omega)).trans ((by unfold lit0t1_1; rw [show i / 128 % 128 = 38 by omega] <;> rfl : lit0t1_1 i = lit0t0_166 i).trans (run10 i))
theorem at167 (i : Nat) (h : i / 128 = 167) : lit0t i = word 10 i :=
  (high (by omega)).trans ((by unfold lit0t1_1; rw [show i / 128 % 128 = 39 by omega] <;> rfl : lit0t1_1 i = lit0t0_167 i).trans (run10 i))
theorem at168 (i : Nat) (h : i / 128 = 168) : lit0t i = word 10 i :=
  (high (by omega)).trans ((by unfold lit0t1_1; rw [show i / 128 % 128 = 40 by omega] <;> rfl : lit0t1_1 i = lit0t0_168 i).trans (run10 i))
theorem at169 (i : Nat) (h : i / 128 = 169) : lit0t i = word 10 i :=
  (high (by omega)).trans ((by unfold lit0t1_1; rw [show i / 128 % 128 = 41 by omega] <;> rfl : lit0t1_1 i = lit0t0_169 i).trans (run10 i))
theorem at170 (i : Nat) (h : i / 128 = 170) : lit0t i = word 10 i :=
  (high (by omega)).trans ((by unfold lit0t1_1; rw [show i / 128 % 128 = 42 by omega] <;> rfl : lit0t1_1 i = lit0t0_170 i).trans (run10 i))
theorem at171 (i : Nat) (h : i / 128 = 171) : lit0t i = word 10 i :=
  (high (by omega)).trans ((by unfold lit0t1_1; rw [show i / 128 % 128 = 43 by omega] <;> rfl : lit0t1_1 i = lit0t0_171 i).trans (run10 i))
theorem at172 (i : Nat) (h : i / 128 = 172) : lit0t i = word 10 i :=
  (high (by omega)).trans ((by unfold lit0t1_1; rw [show i / 128 % 128 = 44 by omega] <;> rfl : lit0t1_1 i = lit0t0_172 i).trans (run10 i))
theorem at173 (i : Nat) (h : i / 128 = 173) : lit0t i = word 10 i :=
  (high (by omega)).trans ((by unfold lit0t1_1; rw [show i / 128 % 128 = 45 by omega] <;> rfl : lit0t1_1 i = lit0t0_173 i).trans (run10 i))
theorem at174 (i : Nat) (h : i / 128 = 174) : lit0t i = word 10 i :=
  (high (by omega)).trans ((by unfold lit0t1_1; rw [show i / 128 % 128 = 46 by omega] <;> rfl : lit0t1_1 i = lit0t0_174 i).trans (run10 i))
theorem at175 (i : Nat) (h : i / 128 = 175) : lit0t i = word 10 i :=
  (high (by omega)).trans ((by unfold lit0t1_1; rw [show i / 128 % 128 = 47 by omega] <;> rfl : lit0t1_1 i = lit0t0_175 i).trans (run10 i))
theorem at176 (i : Nat) (h : i / 128 = 176) : lit0t i = word 11 i :=
  (high (by omega)).trans ((by unfold lit0t1_1; rw [show i / 128 % 128 = 48 by omega] <;> rfl : lit0t1_1 i = lit0t0_176 i).trans (run11 i))
theorem at177 (i : Nat) (h : i / 128 = 177) : lit0t i = word 11 i :=
  (high (by omega)).trans ((by unfold lit0t1_1; rw [show i / 128 % 128 = 49 by omega] <;> rfl : lit0t1_1 i = lit0t0_177 i).trans (run11 i))
theorem at178 (i : Nat) (h : i / 128 = 178) : lit0t i = word 11 i :=
  (high (by omega)).trans ((by unfold lit0t1_1; rw [show i / 128 % 128 = 50 by omega] <;> rfl : lit0t1_1 i = lit0t0_178 i).trans (run11 i))
theorem at179 (i : Nat) (h : i / 128 = 179) : lit0t i = word 11 i :=
  (high (by omega)).trans ((by unfold lit0t1_1; rw [show i / 128 % 128 = 51 by omega] <;> rfl : lit0t1_1 i = lit0t0_179 i).trans (run11 i))
theorem at180 (i : Nat) (h : i / 128 = 180) : lit0t i = word 11 i :=
  (high (by omega)).trans ((by unfold lit0t1_1; rw [show i / 128 % 128 = 52 by omega] <;> rfl : lit0t1_1 i = lit0t0_180 i).trans (run11 i))
theorem at181 (i : Nat) (h : i / 128 = 181) : lit0t i = word 11 i :=
  (high (by omega)).trans ((by unfold lit0t1_1; rw [show i / 128 % 128 = 53 by omega] <;> rfl : lit0t1_1 i = lit0t0_181 i).trans (run11 i))
theorem at182 (i : Nat) (h : i / 128 = 182) : lit0t i = word 11 i :=
  (high (by omega)).trans ((by unfold lit0t1_1; rw [show i / 128 % 128 = 54 by omega] <;> rfl : lit0t1_1 i = lit0t0_182 i).trans (run11 i))
theorem at183 (i : Nat) (h : i / 128 = 183) : lit0t i = word 11 i :=
  (high (by omega)).trans ((by unfold lit0t1_1; rw [show i / 128 % 128 = 55 by omega] <;> rfl : lit0t1_1 i = lit0t0_183 i).trans (run11 i))
theorem at184 (i : Nat) (h : i / 128 = 184) : lit0t i = word 11 i :=
  (high (by omega)).trans ((by unfold lit0t1_1; rw [show i / 128 % 128 = 56 by omega] <;> rfl : lit0t1_1 i = lit0t0_184 i).trans (run11 i))
theorem at185 (i : Nat) (h : i / 128 = 185) : lit0t i = word 11 i :=
  (high (by omega)).trans ((by unfold lit0t1_1; rw [show i / 128 % 128 = 57 by omega] <;> rfl : lit0t1_1 i = lit0t0_185 i).trans (run11 i))
theorem at186 (i : Nat) (h : i / 128 = 186) : lit0t i = word 11 i :=
  (high (by omega)).trans ((by unfold lit0t1_1; rw [show i / 128 % 128 = 58 by omega] <;> rfl : lit0t1_1 i = lit0t0_186 i).trans (run11 i))
theorem at187 (i : Nat) (h : i / 128 = 187) : lit0t i = word 11 i :=
  (high (by omega)).trans ((by unfold lit0t1_1; rw [show i / 128 % 128 = 59 by omega] <;> rfl : lit0t1_1 i = lit0t0_187 i).trans (run11 i))
theorem at188 (i : Nat) (h : i / 128 = 188) : lit0t i = word 11 i :=
  (high (by omega)).trans ((by unfold lit0t1_1; rw [show i / 128 % 128 = 60 by omega] <;> rfl : lit0t1_1 i = lit0t0_188 i).trans (run11 i))
theorem at189 (i : Nat) (h : i / 128 = 189) : lit0t i = word 11 i :=
  (high (by omega)).trans ((by unfold lit0t1_1; rw [show i / 128 % 128 = 61 by omega] <;> rfl : lit0t1_1 i = lit0t0_189 i).trans (run11 i))
theorem at190 (i : Nat) (h : i / 128 = 190) : lit0t i = word 11 i :=
  (high (by omega)).trans ((by unfold lit0t1_1; rw [show i / 128 % 128 = 62 by omega] <;> rfl : lit0t1_1 i = lit0t0_190 i).trans (run11 i))
theorem at191 (i : Nat) (h : i / 128 = 191) : lit0t i = word 11 i :=
  (high (by omega)).trans ((by unfold lit0t1_1; rw [show i / 128 % 128 = 63 by omega] <;> rfl : lit0t1_1 i = lit0t0_191 i).trans (run11 i))
theorem at192 (i : Nat) (h : i / 128 = 192) : lit0t i = word 12 i :=
  (high (by omega)).trans ((by unfold lit0t1_1; rw [show i / 128 % 128 = 64 by omega] <;> rfl : lit0t1_1 i = lit0t0_192 i).trans (run12 i))
theorem at193 (i : Nat) (h : i / 128 = 193) : lit0t i = word 12 i :=
  (high (by omega)).trans ((by unfold lit0t1_1; rw [show i / 128 % 128 = 65 by omega] <;> rfl : lit0t1_1 i = lit0t0_193 i).trans (run12 i))
theorem at194 (i : Nat) (h : i / 128 = 194) : lit0t i = word 12 i :=
  (high (by omega)).trans ((by unfold lit0t1_1; rw [show i / 128 % 128 = 66 by omega] <;> rfl : lit0t1_1 i = lit0t0_194 i).trans (run12 i))
theorem at195 (i : Nat) (h : i / 128 = 195) : lit0t i = word 12 i :=
  (high (by omega)).trans ((by unfold lit0t1_1; rw [show i / 128 % 128 = 67 by omega] <;> rfl : lit0t1_1 i = lit0t0_195 i).trans (run12 i))
theorem at196 (i : Nat) (h : i / 128 = 196) : lit0t i = word 12 i :=
  (high (by omega)).trans ((by unfold lit0t1_1; rw [show i / 128 % 128 = 68 by omega] <;> rfl : lit0t1_1 i = lit0t0_196 i).trans (run12 i))
theorem at197 (i : Nat) (h : i / 128 = 197) : lit0t i = word 12 i :=
  (high (by omega)).trans ((by unfold lit0t1_1; rw [show i / 128 % 128 = 69 by omega] <;> rfl : lit0t1_1 i = lit0t0_197 i).trans (run12 i))
theorem at198 (i : Nat) (h : i / 128 = 198) : lit0t i = word 12 i :=
  (high (by omega)).trans ((by unfold lit0t1_1; rw [show i / 128 % 128 = 70 by omega] <;> rfl : lit0t1_1 i = lit0t0_198 i).trans (run12 i))
theorem at199 (i : Nat) (h : i / 128 = 199) : lit0t i = word 12 i :=
  (high (by omega)).trans ((by unfold lit0t1_1; rw [show i / 128 % 128 = 71 by omega] <;> rfl : lit0t1_1 i = lit0t0_199 i).trans (run12 i))
theorem at200 (i : Nat) (h : i / 128 = 200) : lit0t i = word 12 i :=
  (high (by omega)).trans ((by unfold lit0t1_1; rw [show i / 128 % 128 = 72 by omega] <;> rfl : lit0t1_1 i = lit0t0_200 i).trans (run12 i))
theorem at201 (i : Nat) (h : i / 128 = 201) : lit0t i = word 12 i :=
  (high (by omega)).trans ((by unfold lit0t1_1; rw [show i / 128 % 128 = 73 by omega] <;> rfl : lit0t1_1 i = lit0t0_201 i).trans (run12 i))
theorem at202 (i : Nat) (h : i / 128 = 202) : lit0t i = word 12 i :=
  (high (by omega)).trans ((by unfold lit0t1_1; rw [show i / 128 % 128 = 74 by omega] <;> rfl : lit0t1_1 i = lit0t0_202 i).trans (run12 i))
theorem at203 (i : Nat) (h : i / 128 = 203) : lit0t i = word 12 i :=
  (high (by omega)).trans ((by unfold lit0t1_1; rw [show i / 128 % 128 = 75 by omega] <;> rfl : lit0t1_1 i = lit0t0_203 i).trans (run12 i))
theorem at204 (i : Nat) (h : i / 128 = 204) : lit0t i = word 12 i :=
  (high (by omega)).trans ((by unfold lit0t1_1; rw [show i / 128 % 128 = 76 by omega] <;> rfl : lit0t1_1 i = lit0t0_204 i).trans (run12 i))
theorem at205 (i : Nat) (h : i / 128 = 205) : lit0t i = word 12 i :=
  (high (by omega)).trans ((by unfold lit0t1_1; rw [show i / 128 % 128 = 77 by omega] <;> rfl : lit0t1_1 i = lit0t0_205 i).trans (run12 i))
theorem at206 (i : Nat) (h : i / 128 = 206) : lit0t i = word 12 i :=
  (high (by omega)).trans ((by unfold lit0t1_1; rw [show i / 128 % 128 = 78 by omega] <;> rfl : lit0t1_1 i = lit0t0_206 i).trans (run12 i))
theorem at207 (i : Nat) (h : i / 128 = 207) : lit0t i = word 12 i :=
  (high (by omega)).trans ((by unfold lit0t1_1; rw [show i / 128 % 128 = 79 by omega] <;> rfl : lit0t1_1 i = lit0t0_207 i).trans (run12 i))
theorem at208 (i : Nat) (h : i / 128 = 208) : lit0t i = word 13 i :=
  (high (by omega)).trans ((by unfold lit0t1_1; rw [show i / 128 % 128 = 80 by omega] <;> rfl : lit0t1_1 i = lit0t0_208 i).trans (run13 i))
theorem at209 (i : Nat) (h : i / 128 = 209) : lit0t i = word 13 i :=
  (high (by omega)).trans ((by unfold lit0t1_1; rw [show i / 128 % 128 = 81 by omega] <;> rfl : lit0t1_1 i = lit0t0_209 i).trans (run13 i))
theorem at210 (i : Nat) (h : i / 128 = 210) : lit0t i = word 13 i :=
  (high (by omega)).trans ((by unfold lit0t1_1; rw [show i / 128 % 128 = 82 by omega] <;> rfl : lit0t1_1 i = lit0t0_210 i).trans (run13 i))
theorem at211 (i : Nat) (h : i / 128 = 211) : lit0t i = word 13 i :=
  (high (by omega)).trans ((by unfold lit0t1_1; rw [show i / 128 % 128 = 83 by omega] <;> rfl : lit0t1_1 i = lit0t0_211 i).trans (run13 i))
theorem at212 (i : Nat) (h : i / 128 = 212) : lit0t i = word 13 i :=
  (high (by omega)).trans ((by unfold lit0t1_1; rw [show i / 128 % 128 = 84 by omega] <;> rfl : lit0t1_1 i = lit0t0_212 i).trans (run13 i))
theorem at213 (i : Nat) (h : i / 128 = 213) : lit0t i = word 13 i :=
  (high (by omega)).trans ((by unfold lit0t1_1; rw [show i / 128 % 128 = 85 by omega] <;> rfl : lit0t1_1 i = lit0t0_213 i).trans (run13 i))
theorem at214 (i : Nat) (h : i / 128 = 214) : lit0t i = word 13 i :=
  (high (by omega)).trans ((by unfold lit0t1_1; rw [show i / 128 % 128 = 86 by omega] <;> rfl : lit0t1_1 i = lit0t0_214 i).trans (run13 i))
theorem at215 (i : Nat) (h : i / 128 = 215) : lit0t i = word 13 i :=
  (high (by omega)).trans ((by unfold lit0t1_1; rw [show i / 128 % 128 = 87 by omega] <;> rfl : lit0t1_1 i = lit0t0_215 i).trans (run13 i))
theorem at216 (i : Nat) (h : i / 128 = 216) : lit0t i = word 13 i :=
  (high (by omega)).trans ((by unfold lit0t1_1; rw [show i / 128 % 128 = 88 by omega] <;> rfl : lit0t1_1 i = lit0t0_216 i).trans (run13 i))
theorem at217 (i : Nat) (h : i / 128 = 217) : lit0t i = word 13 i :=
  (high (by omega)).trans ((by unfold lit0t1_1; rw [show i / 128 % 128 = 89 by omega] <;> rfl : lit0t1_1 i = lit0t0_217 i).trans (run13 i))
theorem at218 (i : Nat) (h : i / 128 = 218) : lit0t i = word 13 i :=
  (high (by omega)).trans ((by unfold lit0t1_1; rw [show i / 128 % 128 = 90 by omega] <;> rfl : lit0t1_1 i = lit0t0_218 i).trans (run13 i))
theorem at219 (i : Nat) (h : i / 128 = 219) : lit0t i = word 13 i :=
  (high (by omega)).trans ((by unfold lit0t1_1; rw [show i / 128 % 128 = 91 by omega] <;> rfl : lit0t1_1 i = lit0t0_219 i).trans (run13 i))
theorem at220 (i : Nat) (h : i / 128 = 220) : lit0t i = word 13 i :=
  (high (by omega)).trans ((by unfold lit0t1_1; rw [show i / 128 % 128 = 92 by omega] <;> rfl : lit0t1_1 i = lit0t0_220 i).trans (run13 i))
theorem at221 (i : Nat) (h : i / 128 = 221) : lit0t i = word 13 i :=
  (high (by omega)).trans ((by unfold lit0t1_1; rw [show i / 128 % 128 = 93 by omega] <;> rfl : lit0t1_1 i = lit0t0_221 i).trans (run13 i))
theorem at222 (i : Nat) (h : i / 128 = 222) : lit0t i = word 13 i :=
  (high (by omega)).trans ((by unfold lit0t1_1; rw [show i / 128 % 128 = 94 by omega] <;> rfl : lit0t1_1 i = lit0t0_222 i).trans (run13 i))
theorem at223 (i : Nat) (h : i / 128 = 223) : lit0t i = word 13 i :=
  (high (by omega)).trans ((by unfold lit0t1_1; rw [show i / 128 % 128 = 95 by omega] <;> rfl : lit0t1_1 i = lit0t0_223 i).trans (run13 i))
theorem at224 (i : Nat) (h : i / 128 = 224) : lit0t i = word 14 i :=
  (high (by omega)).trans ((by unfold lit0t1_1; rw [show i / 128 % 128 = 96 by omega] <;> rfl : lit0t1_1 i = lit0t0_224 i).trans (run14 i))
theorem at225 (i : Nat) (h : i / 128 = 225) : lit0t i = word 14 i :=
  (high (by omega)).trans ((by unfold lit0t1_1; rw [show i / 128 % 128 = 97 by omega] <;> rfl : lit0t1_1 i = lit0t0_225 i).trans (run14 i))
theorem at226 (i : Nat) (h : i / 128 = 226) : lit0t i = word 14 i :=
  (high (by omega)).trans ((by unfold lit0t1_1; rw [show i / 128 % 128 = 98 by omega] <;> rfl : lit0t1_1 i = lit0t0_226 i).trans (run14 i))
theorem at227 (i : Nat) (h : i / 128 = 227) : lit0t i = word 14 i :=
  (high (by omega)).trans ((by unfold lit0t1_1; rw [show i / 128 % 128 = 99 by omega] <;> rfl : lit0t1_1 i = lit0t0_227 i).trans (run14 i))
theorem at228 (i : Nat) (h : i / 128 = 228) : lit0t i = word 14 i :=
  (high (by omega)).trans ((by unfold lit0t1_1; rw [show i / 128 % 128 = 100 by omega] <;> rfl : lit0t1_1 i = lit0t0_228 i).trans (run14 i))
theorem at229 (i : Nat) (h : i / 128 = 229) : lit0t i = word 14 i :=
  (high (by omega)).trans ((by unfold lit0t1_1; rw [show i / 128 % 128 = 101 by omega] <;> rfl : lit0t1_1 i = lit0t0_229 i).trans (run14 i))
theorem at230 (i : Nat) (h : i / 128 = 230) : lit0t i = word 14 i :=
  (high (by omega)).trans ((by unfold lit0t1_1; rw [show i / 128 % 128 = 102 by omega] <;> rfl : lit0t1_1 i = lit0t0_230 i).trans (run14 i))
theorem at231 (i : Nat) (h : i / 128 = 231) : lit0t i = word 14 i :=
  (high (by omega)).trans ((by unfold lit0t1_1; rw [show i / 128 % 128 = 103 by omega] <;> rfl : lit0t1_1 i = lit0t0_231 i).trans (run14 i))
theorem at232 (i : Nat) (h : i / 128 = 232) : lit0t i = word 14 i :=
  (high (by omega)).trans ((by unfold lit0t1_1; rw [show i / 128 % 128 = 104 by omega] <;> rfl : lit0t1_1 i = lit0t0_232 i).trans (run14 i))
theorem at233 (i : Nat) (h : i / 128 = 233) : lit0t i = word 14 i :=
  (high (by omega)).trans ((by unfold lit0t1_1; rw [show i / 128 % 128 = 105 by omega] <;> rfl : lit0t1_1 i = lit0t0_233 i).trans (run14 i))
theorem at234 (i : Nat) (h : i / 128 = 234) : lit0t i = word 14 i :=
  (high (by omega)).trans ((by unfold lit0t1_1; rw [show i / 128 % 128 = 106 by omega] <;> rfl : lit0t1_1 i = lit0t0_234 i).trans (run14 i))
theorem at235 (i : Nat) (h : i / 128 = 235) : lit0t i = word 14 i :=
  (high (by omega)).trans ((by unfold lit0t1_1; rw [show i / 128 % 128 = 107 by omega] <;> rfl : lit0t1_1 i = lit0t0_235 i).trans (run14 i))
theorem at236 (i : Nat) (h : i / 128 = 236) : lit0t i = word 14 i :=
  (high (by omega)).trans ((by unfold lit0t1_1; rw [show i / 128 % 128 = 108 by omega] <;> rfl : lit0t1_1 i = lit0t0_236 i).trans (run14 i))
theorem at237 (i : Nat) (h : i / 128 = 237) : lit0t i = word 14 i :=
  (high (by omega)).trans ((by unfold lit0t1_1; rw [show i / 128 % 128 = 109 by omega] <;> rfl : lit0t1_1 i = lit0t0_237 i).trans (run14 i))
theorem at238 (i : Nat) (h : i / 128 = 238) : lit0t i = word 14 i :=
  (high (by omega)).trans ((by unfold lit0t1_1; rw [show i / 128 % 128 = 110 by omega] <;> rfl : lit0t1_1 i = lit0t0_238 i).trans (run14 i))
theorem at239 (i : Nat) (h : i / 128 = 239) : lit0t i = word 14 i :=
  (high (by omega)).trans ((by unfold lit0t1_1; rw [show i / 128 % 128 = 111 by omega] <;> rfl : lit0t1_1 i = lit0t0_239 i).trans (run14 i))

theorem group0 (r : Fin 16) (i : Nat) (h : i / 128 = 0 + r.val) : lit0t i = word 0 i :=
  match r, h with
  | ⟨0, _⟩, h => at0 i h
  | ⟨1, _⟩, h => at1 i h
  | ⟨2, _⟩, h => at2 i h
  | ⟨3, _⟩, h => at3 i h
  | ⟨4, _⟩, h => at4 i h
  | ⟨5, _⟩, h => at5 i h
  | ⟨6, _⟩, h => at6 i h
  | ⟨7, _⟩, h => at7 i h
  | ⟨8, _⟩, h => at8 i h
  | ⟨9, _⟩, h => at9 i h
  | ⟨10, _⟩, h => at10 i h
  | ⟨11, _⟩, h => at11 i h
  | ⟨12, _⟩, h => at12 i h
  | ⟨13, _⟩, h => at13 i h
  | ⟨14, _⟩, h => at14 i h
  | ⟨15, _⟩, h => at15 i h
  | ⟨n + 16, hn⟩, _ => absurd hn (by omega)

theorem group1 (r : Fin 16) (i : Nat) (h : i / 128 = 16 + r.val) : lit0t i = word 1 i :=
  match r, h with
  | ⟨0, _⟩, h => at16 i h
  | ⟨1, _⟩, h => at17 i h
  | ⟨2, _⟩, h => at18 i h
  | ⟨3, _⟩, h => at19 i h
  | ⟨4, _⟩, h => at20 i h
  | ⟨5, _⟩, h => at21 i h
  | ⟨6, _⟩, h => at22 i h
  | ⟨7, _⟩, h => at23 i h
  | ⟨8, _⟩, h => at24 i h
  | ⟨9, _⟩, h => at25 i h
  | ⟨10, _⟩, h => at26 i h
  | ⟨11, _⟩, h => at27 i h
  | ⟨12, _⟩, h => at28 i h
  | ⟨13, _⟩, h => at29 i h
  | ⟨14, _⟩, h => at30 i h
  | ⟨15, _⟩, h => at31 i h
  | ⟨n + 16, hn⟩, _ => absurd hn (by omega)

theorem group2 (r : Fin 16) (i : Nat) (h : i / 128 = 32 + r.val) : lit0t i = word 2 i :=
  match r, h with
  | ⟨0, _⟩, h => at32 i h
  | ⟨1, _⟩, h => at33 i h
  | ⟨2, _⟩, h => at34 i h
  | ⟨3, _⟩, h => at35 i h
  | ⟨4, _⟩, h => at36 i h
  | ⟨5, _⟩, h => at37 i h
  | ⟨6, _⟩, h => at38 i h
  | ⟨7, _⟩, h => at39 i h
  | ⟨8, _⟩, h => at40 i h
  | ⟨9, _⟩, h => at41 i h
  | ⟨10, _⟩, h => at42 i h
  | ⟨11, _⟩, h => at43 i h
  | ⟨12, _⟩, h => at44 i h
  | ⟨13, _⟩, h => at45 i h
  | ⟨14, _⟩, h => at46 i h
  | ⟨15, _⟩, h => at47 i h
  | ⟨n + 16, hn⟩, _ => absurd hn (by omega)

theorem group3 (r : Fin 16) (i : Nat) (h : i / 128 = 48 + r.val) : lit0t i = word 3 i :=
  match r, h with
  | ⟨0, _⟩, h => at48 i h
  | ⟨1, _⟩, h => at49 i h
  | ⟨2, _⟩, h => at50 i h
  | ⟨3, _⟩, h => at51 i h
  | ⟨4, _⟩, h => at52 i h
  | ⟨5, _⟩, h => at53 i h
  | ⟨6, _⟩, h => at54 i h
  | ⟨7, _⟩, h => at55 i h
  | ⟨8, _⟩, h => at56 i h
  | ⟨9, _⟩, h => at57 i h
  | ⟨10, _⟩, h => at58 i h
  | ⟨11, _⟩, h => at59 i h
  | ⟨12, _⟩, h => at60 i h
  | ⟨13, _⟩, h => at61 i h
  | ⟨14, _⟩, h => at62 i h
  | ⟨15, _⟩, h => at63 i h
  | ⟨n + 16, hn⟩, _ => absurd hn (by omega)

theorem group4 (r : Fin 16) (i : Nat) (h : i / 128 = 64 + r.val) : lit0t i = word 4 i :=
  match r, h with
  | ⟨0, _⟩, h => at64 i h
  | ⟨1, _⟩, h => at65 i h
  | ⟨2, _⟩, h => at66 i h
  | ⟨3, _⟩, h => at67 i h
  | ⟨4, _⟩, h => at68 i h
  | ⟨5, _⟩, h => at69 i h
  | ⟨6, _⟩, h => at70 i h
  | ⟨7, _⟩, h => at71 i h
  | ⟨8, _⟩, h => at72 i h
  | ⟨9, _⟩, h => at73 i h
  | ⟨10, _⟩, h => at74 i h
  | ⟨11, _⟩, h => at75 i h
  | ⟨12, _⟩, h => at76 i h
  | ⟨13, _⟩, h => at77 i h
  | ⟨14, _⟩, h => at78 i h
  | ⟨15, _⟩, h => at79 i h
  | ⟨n + 16, hn⟩, _ => absurd hn (by omega)

theorem group5 (r : Fin 16) (i : Nat) (h : i / 128 = 80 + r.val) : lit0t i = word 5 i :=
  match r, h with
  | ⟨0, _⟩, h => at80 i h
  | ⟨1, _⟩, h => at81 i h
  | ⟨2, _⟩, h => at82 i h
  | ⟨3, _⟩, h => at83 i h
  | ⟨4, _⟩, h => at84 i h
  | ⟨5, _⟩, h => at85 i h
  | ⟨6, _⟩, h => at86 i h
  | ⟨7, _⟩, h => at87 i h
  | ⟨8, _⟩, h => at88 i h
  | ⟨9, _⟩, h => at89 i h
  | ⟨10, _⟩, h => at90 i h
  | ⟨11, _⟩, h => at91 i h
  | ⟨12, _⟩, h => at92 i h
  | ⟨13, _⟩, h => at93 i h
  | ⟨14, _⟩, h => at94 i h
  | ⟨15, _⟩, h => at95 i h
  | ⟨n + 16, hn⟩, _ => absurd hn (by omega)

theorem group6 (r : Fin 16) (i : Nat) (h : i / 128 = 96 + r.val) : lit0t i = word 6 i :=
  match r, h with
  | ⟨0, _⟩, h => at96 i h
  | ⟨1, _⟩, h => at97 i h
  | ⟨2, _⟩, h => at98 i h
  | ⟨3, _⟩, h => at99 i h
  | ⟨4, _⟩, h => at100 i h
  | ⟨5, _⟩, h => at101 i h
  | ⟨6, _⟩, h => at102 i h
  | ⟨7, _⟩, h => at103 i h
  | ⟨8, _⟩, h => at104 i h
  | ⟨9, _⟩, h => at105 i h
  | ⟨10, _⟩, h => at106 i h
  | ⟨11, _⟩, h => at107 i h
  | ⟨12, _⟩, h => at108 i h
  | ⟨13, _⟩, h => at109 i h
  | ⟨14, _⟩, h => at110 i h
  | ⟨15, _⟩, h => at111 i h
  | ⟨n + 16, hn⟩, _ => absurd hn (by omega)

theorem group7 (r : Fin 16) (i : Nat) (h : i / 128 = 112 + r.val) : lit0t i = word 7 i :=
  match r, h with
  | ⟨0, _⟩, h => at112 i h
  | ⟨1, _⟩, h => at113 i h
  | ⟨2, _⟩, h => at114 i h
  | ⟨3, _⟩, h => at115 i h
  | ⟨4, _⟩, h => at116 i h
  | ⟨5, _⟩, h => at117 i h
  | ⟨6, _⟩, h => at118 i h
  | ⟨7, _⟩, h => at119 i h
  | ⟨8, _⟩, h => at120 i h
  | ⟨9, _⟩, h => at121 i h
  | ⟨10, _⟩, h => at122 i h
  | ⟨11, _⟩, h => at123 i h
  | ⟨12, _⟩, h => at124 i h
  | ⟨13, _⟩, h => at125 i h
  | ⟨14, _⟩, h => at126 i h
  | ⟨15, _⟩, h => at127 i h
  | ⟨n + 16, hn⟩, _ => absurd hn (by omega)

theorem group8 (r : Fin 16) (i : Nat) (h : i / 128 = 128 + r.val) : lit0t i = word 8 i :=
  match r, h with
  | ⟨0, _⟩, h => at128 i h
  | ⟨1, _⟩, h => at129 i h
  | ⟨2, _⟩, h => at130 i h
  | ⟨3, _⟩, h => at131 i h
  | ⟨4, _⟩, h => at132 i h
  | ⟨5, _⟩, h => at133 i h
  | ⟨6, _⟩, h => at134 i h
  | ⟨7, _⟩, h => at135 i h
  | ⟨8, _⟩, h => at136 i h
  | ⟨9, _⟩, h => at137 i h
  | ⟨10, _⟩, h => at138 i h
  | ⟨11, _⟩, h => at139 i h
  | ⟨12, _⟩, h => at140 i h
  | ⟨13, _⟩, h => at141 i h
  | ⟨14, _⟩, h => at142 i h
  | ⟨15, _⟩, h => at143 i h
  | ⟨n + 16, hn⟩, _ => absurd hn (by omega)

theorem group9 (r : Fin 16) (i : Nat) (h : i / 128 = 144 + r.val) : lit0t i = word 9 i :=
  match r, h with
  | ⟨0, _⟩, h => at144 i h
  | ⟨1, _⟩, h => at145 i h
  | ⟨2, _⟩, h => at146 i h
  | ⟨3, _⟩, h => at147 i h
  | ⟨4, _⟩, h => at148 i h
  | ⟨5, _⟩, h => at149 i h
  | ⟨6, _⟩, h => at150 i h
  | ⟨7, _⟩, h => at151 i h
  | ⟨8, _⟩, h => at152 i h
  | ⟨9, _⟩, h => at153 i h
  | ⟨10, _⟩, h => at154 i h
  | ⟨11, _⟩, h => at155 i h
  | ⟨12, _⟩, h => at156 i h
  | ⟨13, _⟩, h => at157 i h
  | ⟨14, _⟩, h => at158 i h
  | ⟨15, _⟩, h => at159 i h
  | ⟨n + 16, hn⟩, _ => absurd hn (by omega)

theorem group10 (r : Fin 16) (i : Nat) (h : i / 128 = 160 + r.val) : lit0t i = word 10 i :=
  match r, h with
  | ⟨0, _⟩, h => at160 i h
  | ⟨1, _⟩, h => at161 i h
  | ⟨2, _⟩, h => at162 i h
  | ⟨3, _⟩, h => at163 i h
  | ⟨4, _⟩, h => at164 i h
  | ⟨5, _⟩, h => at165 i h
  | ⟨6, _⟩, h => at166 i h
  | ⟨7, _⟩, h => at167 i h
  | ⟨8, _⟩, h => at168 i h
  | ⟨9, _⟩, h => at169 i h
  | ⟨10, _⟩, h => at170 i h
  | ⟨11, _⟩, h => at171 i h
  | ⟨12, _⟩, h => at172 i h
  | ⟨13, _⟩, h => at173 i h
  | ⟨14, _⟩, h => at174 i h
  | ⟨15, _⟩, h => at175 i h
  | ⟨n + 16, hn⟩, _ => absurd hn (by omega)

theorem group11 (r : Fin 16) (i : Nat) (h : i / 128 = 176 + r.val) : lit0t i = word 11 i :=
  match r, h with
  | ⟨0, _⟩, h => at176 i h
  | ⟨1, _⟩, h => at177 i h
  | ⟨2, _⟩, h => at178 i h
  | ⟨3, _⟩, h => at179 i h
  | ⟨4, _⟩, h => at180 i h
  | ⟨5, _⟩, h => at181 i h
  | ⟨6, _⟩, h => at182 i h
  | ⟨7, _⟩, h => at183 i h
  | ⟨8, _⟩, h => at184 i h
  | ⟨9, _⟩, h => at185 i h
  | ⟨10, _⟩, h => at186 i h
  | ⟨11, _⟩, h => at187 i h
  | ⟨12, _⟩, h => at188 i h
  | ⟨13, _⟩, h => at189 i h
  | ⟨14, _⟩, h => at190 i h
  | ⟨15, _⟩, h => at191 i h
  | ⟨n + 16, hn⟩, _ => absurd hn (by omega)

theorem group12 (r : Fin 16) (i : Nat) (h : i / 128 = 192 + r.val) : lit0t i = word 12 i :=
  match r, h with
  | ⟨0, _⟩, h => at192 i h
  | ⟨1, _⟩, h => at193 i h
  | ⟨2, _⟩, h => at194 i h
  | ⟨3, _⟩, h => at195 i h
  | ⟨4, _⟩, h => at196 i h
  | ⟨5, _⟩, h => at197 i h
  | ⟨6, _⟩, h => at198 i h
  | ⟨7, _⟩, h => at199 i h
  | ⟨8, _⟩, h => at200 i h
  | ⟨9, _⟩, h => at201 i h
  | ⟨10, _⟩, h => at202 i h
  | ⟨11, _⟩, h => at203 i h
  | ⟨12, _⟩, h => at204 i h
  | ⟨13, _⟩, h => at205 i h
  | ⟨14, _⟩, h => at206 i h
  | ⟨15, _⟩, h => at207 i h
  | ⟨n + 16, hn⟩, _ => absurd hn (by omega)

theorem group13 (r : Fin 16) (i : Nat) (h : i / 128 = 208 + r.val) : lit0t i = word 13 i :=
  match r, h with
  | ⟨0, _⟩, h => at208 i h
  | ⟨1, _⟩, h => at209 i h
  | ⟨2, _⟩, h => at210 i h
  | ⟨3, _⟩, h => at211 i h
  | ⟨4, _⟩, h => at212 i h
  | ⟨5, _⟩, h => at213 i h
  | ⟨6, _⟩, h => at214 i h
  | ⟨7, _⟩, h => at215 i h
  | ⟨8, _⟩, h => at216 i h
  | ⟨9, _⟩, h => at217 i h
  | ⟨10, _⟩, h => at218 i h
  | ⟨11, _⟩, h => at219 i h
  | ⟨12, _⟩, h => at220 i h
  | ⟨13, _⟩, h => at221 i h
  | ⟨14, _⟩, h => at222 i h
  | ⟨15, _⟩, h => at223 i h
  | ⟨n + 16, hn⟩, _ => absurd hn (by omega)

theorem group14 (r : Fin 16) (i : Nat) (h : i / 128 = 224 + r.val) : lit0t i = word 14 i :=
  match r, h with
  | ⟨0, _⟩, h => at224 i h
  | ⟨1, _⟩, h => at225 i h
  | ⟨2, _⟩, h => at226 i h
  | ⟨3, _⟩, h => at227 i h
  | ⟨4, _⟩, h => at228 i h
  | ⟨5, _⟩, h => at229 i h
  | ⟨6, _⟩, h => at230 i h
  | ⟨7, _⟩, h => at231 i h
  | ⟨8, _⟩, h => at232 i h
  | ⟨9, _⟩, h => at233 i h
  | ⟨10, _⟩, h => at234 i h
  | ⟨11, _⟩, h => at235 i h
  | ⟨12, _⟩, h => at236 i h
  | ⟨13, _⟩, h => at237 i h
  | ⟨14, _⟩, h => at238 i h
  | ⟨15, _⟩, h => at239 i h
  | ⟨n + 16, hn⟩, _ => absurd hn (by omega)

/-- Every word of the table: the float word of one where the column is the row's group, and the zero word elsewhere. -/
theorem words (n : Fin 1920) (q : Fin 16) : lit0t (n.val * 16 + q.val) = word (n.val / 128) q.val := by
  have hn := n.isLt
  have hq := q.isLt
  have key : ∀ g : Fin 15, n.val / 128 = g.val → lit0t (n.val * 16 + q.val) = word g.val (n.val * 16 + q.val) := by
    intro g hg
    have hr : (n.val * 16 + q.val) / 128 = 16 * g.val + (n.val / 8 - 16 * g.val) := by omega
    have hb : n.val / 8 - 16 * g.val < 16 := by omega
    match g, hr, hb with
    | ⟨0, _⟩, hr, hb => exact group0 ⟨n.val / 8 - 0, hb⟩ _ hr
    | ⟨1, _⟩, hr, hb => exact group1 ⟨n.val / 8 - 16, hb⟩ _ hr
    | ⟨2, _⟩, hr, hb => exact group2 ⟨n.val / 8 - 32, hb⟩ _ hr
    | ⟨3, _⟩, hr, hb => exact group3 ⟨n.val / 8 - 48, hb⟩ _ hr
    | ⟨4, _⟩, hr, hb => exact group4 ⟨n.val / 8 - 64, hb⟩ _ hr
    | ⟨5, _⟩, hr, hb => exact group5 ⟨n.val / 8 - 80, hb⟩ _ hr
    | ⟨6, _⟩, hr, hb => exact group6 ⟨n.val / 8 - 96, hb⟩ _ hr
    | ⟨7, _⟩, hr, hb => exact group7 ⟨n.val / 8 - 112, hb⟩ _ hr
    | ⟨8, _⟩, hr, hb => exact group8 ⟨n.val / 8 - 128, hb⟩ _ hr
    | ⟨9, _⟩, hr, hb => exact group9 ⟨n.val / 8 - 144, hb⟩ _ hr
    | ⟨10, _⟩, hr, hb => exact group10 ⟨n.val / 8 - 160, hb⟩ _ hr
    | ⟨11, _⟩, hr, hb => exact group11 ⟨n.val / 8 - 176, hb⟩ _ hr
    | ⟨12, _⟩, hr, hb => exact group12 ⟨n.val / 8 - 192, hb⟩ _ hr
    | ⟨13, _⟩, hr, hb => exact group13 ⟨n.val / 8 - 208, hb⟩ _ hr
    | ⟨14, _⟩, hr, hb => exact group14 ⟨n.val / 8 - 224, hb⟩ _ hr
  have h := key ⟨n.val / 128, by omega⟩ rfl
  rw [h]
  unfold word
  rw [show (n.val * 16 + q.val) % 16 = q.val % 16 by omega]

end Cert.KernelIdeal.Table

end
-- ==== Proof.Stats.lean ====
/-
  The first kernel's block: both of its results at an index are the sum, over the 2048 points of a row, of one of fifteen
  quantities (the three coordinates of the points, the three projection columns, and their nine products).
-/
module

public import proofs.«01_k».proof.Proof.Table
public import proofs.«01_k».proof.Proof.Gen.KernelIdeal.Frame
public import Idealize.ShloMosaic.Lib.Pipeline.Value
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.KernelIdeal.Stats

open Cert.KernelIdeal Cert.KernelIdeal.Gen Idealize.ShloMosaic

/-! ## Sums -/

/-- A sum over a range of extent `m * n` by quotient and remainder. -/
theorem sum_split {M : Type*} [AddCommMonoid M] (m n N : Nat) (h : m * n = N) (f : Fin N → M) :
    ∑ l, f l = ∑ a : Fin m, ∑ b : Fin n, f ⟨b.val + n * a.val, h ▸ (finProdFinEquiv (a, b)).isLt⟩ := by
  subst h
  rw [← finProdFinEquiv.sum_comp, Fintype.sum_prod_type]
  rfl

/-- A row of 1920 entries against one column of the table keeps the column's group of 128. -/
theorem sum_group (f : Fin 1920 → EReal) (q : Fin 15) :
    ∑ n : Fin 1920, f n * (if n.val / 128 = q.val then (1 : EReal) else 0)
      = ∑ k : Fin 128, f ⟨k.val + 128 * q.val, by have := k.isLt; have := q.isLt; omega⟩ := by
  rw [sum_split 15 128 1920 rfl, Finset.sum_eq_single q]
  · refine Finset.sum_congr rfl fun k _ => ?_
    have hk := k.isLt
    rw [if_pos (by show (k.val + 128 * q.val) / 128 = q.val; omega), mul_one]
  · intro a _ ha
    refine Finset.sum_eq_zero fun k _ => ?_
    have hk := k.isLt
    rw [if_neg (fun h => ha (Fin.ext (by have h' : (k.val + 128 * a.val) / 128 = q.val := h; omega))), mul_zero]
  · intro h; exact absurd (Finset.mem_univ q) h

/-! ## The lane fold -/

/-- Sixteen runs of 128 lanes of a row block, added lane by lane. -/
def fold (v : FVec Ideal S256x2048 .f32) : FVec Ideal S256x128 .f32 :=
  addf (addf (addf (addf (addf (addf (addf (addf (addf (addf (addf (addf (addf (addf (addf
    (extractStridedSlice S256x128 ![0, 0] v slices_S256x2048_o0_0_S256x128)
    (extractStridedSlice S256x128 ![0, 128] v slices_S256x2048_o0_128_S256x128))
    (extractStridedSlice S256x128 ![0, 256] v slices_S256x2048_o0_256_S256x128))
    (extractStridedSlice S256x128 ![0, 384] v slices_S256x2048_o0_384_S256x128))
    (extractStridedSlice S256x128 ![0, 512] v slices_S256x2048_o0_512_S256x128))
    (extractStridedSlice S256x128 ![0, 640] v slices_S256x2048_o0_640_S256x128))
    (extractStridedSlice S256x128 ![0, 768] v slices_S256x2048_o0_768_S256x128))
    (extractStridedSlice S256x128 ![0, 896] v slices_S256x2048_o0_896_S256x128))
    (extractStridedSlice S256x128 ![0, 1024] v slices_S256x2048_o0_1024_S256x128))
    (extractStridedSlice S256x128 ![0, 1152] v slices_S256x2048_o0_1152_S256x128))
    (extractStridedSlice S256x128 ![0, 1280] v slices_S256x2048_o0_1280_S256x128))
    (extractStridedSlice S256x128 ![0, 1408] v slices_S256x2048_o0_1408_S256x128))
    (extractStridedSlice S256x128 ![0, 1536] v slices_S256x2048_o0_1536_S256x128))
    (extractStridedSlice S256x128 ![0, 1664] v slices_S256x2048_o0_1664_S256x128))
    (extractStridedSlice S256x128 ![0, 1792] v slices_S256x2048_o0_1792_S256x128))
    (extractStridedSlice S256x128 ![0, 1920] v slices_S256x2048_o0_1920_S256x128)

/-- One run of 128 lanes at an index. -/
theorem run_apply (v : FVec Ideal S256x2048 .f32) (n : Nat) (h : S256x2048.Slices ![0, n] S256x128) (r : Fin 256) (k : Fin 128)
    (hn : k.val + n < 2048) : extractStridedSlice S256x128 ![0, n] v h (ix2 r k) = v (ix2 r ⟨k.val + n, hn⟩) :=
  extractStridedSlice_apply _ v h _ _ fun a => match a with
    | ⟨0, _⟩ => by show r.val = 0 + r.val; omega
    | ⟨1, _⟩ => by show k.val + n = n + k.val; omega

/-- The fold at a lane is the sum over the sixteen runs. -/
theorem fold_apply (v : FVec Ideal S256x2048 .f32) (r : Fin 256) (k : Fin 128) :
    fold v (ix2 r k) = ∑ a : Fin 16, v (ix2 r ⟨k.val + 128 * a.val, by have := k.isLt; have := a.isLt; omega⟩) := by
  have hk := k.isLt
  simp only [fold, addf, Ideal.addf_def]
  rw [run_apply v 0 _ r k (by omega), run_apply v 128 _ r k (by omega), run_apply v 256 _ r k (by omega),
    run_apply v 384 _ r k (by omega), run_apply v 512 _ r k (by omega), run_apply v 640 _ r k (by omega),
    run_apply v 768 _ r k (by omega), run_apply v 896 _ r k (by omega), run_apply v 1024 _ r k (by omega),
    run_apply v 1152 _ r k (by omega), run_apply v 1280 _ r k (by omega), run_apply v 1408 _ r k (by omega),
    run_apply v 1536 _ r k (by omega), run_apply v 1664 _ r k (by omega), run_apply v 1792 _ r k (by omega),
    run_apply v 1920 _ r k (by omega)]
  simp only [Fin.sum_univ_castSucc, Fin.sum_univ_zero, zero_add]
  rfl

/-- The folds of a row, summed over the lanes, are the sum of the row. -/
theorem fold_sum (v : FVec Ideal S256x2048 .f32) (r : Fin 256) :
    ∑ k : Fin 128, fold v (ix2 r k) = ∑ l : Fin 2048, v (ix2 r l) := by
  rw [sum_split 16 128 2048 rfl, Finset.sum_comm]
  exact Finset.sum_congr rfl fun k _ => fold_apply v r k

/-! ## The fifteen quantities -/

/-- The fifteen row blocks that are folded: the three coordinates, the three projection columns, and the products, the
    projection column running slower. -/
def part (x p : Vec Ideal S3x256x2048 .f32) : Fin 15 → FVec Ideal S256x2048 .f32
  | ⟨0, _⟩ => k0_pay4 (View.ld x r0_0)
  | ⟨1, _⟩ => k0_pay5 (View.ld x r0_1)
  | ⟨2, _⟩ => k0_pay6 (View.ld x r0_2)
  | ⟨3, _⟩ => k0_pay7 (View.ld p r0_0)
  | ⟨4, _⟩ => k0_pay8 (View.ld p r0_1)
  | ⟨5, _⟩ => k0_pay9 (View.ld p r0_2)
  | ⟨6, _⟩ => mulf (k0_pay7 (View.ld p r0_0)) (k0_pay4 (View.ld x r0_0))
  | ⟨7, _⟩ => mulf (k0_pay7 (View.ld p r0_0)) (k0_pay5 (View.ld x r0_1))
  | ⟨8, _⟩ => mulf (k0_pay7 (View.ld p r0_0)) (k0_pay6 (View.ld x r0_2))
  | ⟨9, _⟩ => mulf (k0_pay8 (View.ld p r0_1)) (k0_pay4 (View.ld x r0_0))
  | ⟨10, _⟩ => mulf (k0_pay8 (View.ld p r0_1)) (k0_pay5 (View.ld x r0_1))
  | ⟨11, _⟩ => mulf (k0_pay8 (View.ld p r0_1)) (k0_pay6 (View.ld x r0_2))
  | ⟨12, _⟩ => mulf (k0_pay9 (View.ld p r0_2)) (k0_pay4 (View.ld x r0_0))
  | ⟨13, _⟩ => mulf (k0_pay9 (View.ld p r0_2)) (k0_pay5 (View.ld x r0_1))
  | ⟨14, _⟩ => mulf (k0_pay9 (View.ld p r0_2)) (k0_pay6 (View.ld x r0_2))

/-- The value the two products take: the fifteen folds side by side. -/
theorem joined_eq (x p : Vec Ideal S3x256x2048 .f32) (w : Vec Ideal S1920x16 .f32) :
    k0_pay46 x p w = concatenate S256x1920 1 (List.ofFn fun n : Fin 15 => (⟨S256x128, fold (part x p n)⟩ : (s : Shape) × (s.Idx → Ideal .f32)))
      concatenates_S256x128_S256x128_S256x128_S256x128_S256x128_S256x128_S256x128_S256x128_S256x128_S256x128_S256x128_S256x128_S256x128_S256x128_S256x128_S256x1920_d1 := rfl

theorem joined_apply (x p : Vec Ideal S3x256x2048 .f32) (w : Vec Ideal S1920x16 .f32) (r : Fin 256) (k : Fin 128) (q : Fin 15)
    (h : k.val + 128 * q.val < 1920) :
    k0_pay46 x p w (ix2 r ⟨k.val + 128 * q.val, h⟩) = fold (part x p q) (ix2 r k) := by
  rw [joined_eq]
  have hk := k.isLt
  exact concatenate_ofFn_apply (t := S256x1920) (s₁ := S256x128) 1 (fun n => fold (part x p n)) _ rfl 128 rfl (ix2 r ⟨k.val + 128 * q.val, h⟩) q
    (by show (k.val + 128 * q.val) / 128 = q.val; omega) (ix2 r k)
    (by show k.val = (k.val + 128 * q.val) % 128; omega)
    (fun b hb => match b, hb with
      | ⟨0, _⟩, _ => rfl
      | ⟨1, _⟩, hb => absurd rfl hb)

/-! ## The two products -/

theorem pay2_apply (v : FVec Ideal S256x1920 .f32) (w : Vec Ideal S1920x16 .f32) (r : Fin 256) (q : Fin 16) :
    k0_pay2 v w (ix2 r q) = ∑ n : Fin 1920, v (ix2 r n) * w (ix2 n q) := by
  pointwise [k0_pay2]

theorem pay3_apply (v : FVec Ideal S256x1920 .f32) (w : Vec Ideal S1920x16 .f32) (q : Fin 16) (r : Fin 256) :
    k0_pay3 v w (ix2 q r) = ∑ n : Fin 1920, w (ix2 n q) * v (ix2 r n) := by
  pointwise [k0_pay3]

/-- The table as numbers. -/
def IsTable (w : Vec Ideal S1920x16 .f32) : Prop :=
  ∀ (n : Fin 1920) (q : Fin 16), w (ix2 n q) = if n.val / 128 = q.val then (1 : EReal) else 0

/-- The first result of a block at column `q`: the row's sum of quantity `q`. -/
theorem rows_apply (x p : Vec Ideal S3x256x2048 .f32) (w : Vec Ideal S1920x16 .f32) (hw : IsTable w) (r : Fin 256) (q : Fin 15) :
    k0_pay2 (k0_pay46 x p w) w (ix2 r (q.castLT (by have := q.isLt; omega))) = ∑ l : Fin 2048, part x p q (ix2 r l) := by
  rw [pay2_apply, ← fold_sum]
  rw [Finset.sum_congr rfl fun n _ => by rw [hw]]
  refine (sum_group (fun n => k0_pay46 x p w (ix2 r n)) q).trans ?_
  exact Finset.sum_congr rfl fun k _ => joined_apply x p w r k q _

/-- The second result of a block at row `q`: the same sum. -/
theorem cols_apply (x p : Vec Ideal S3x256x2048 .f32) (w : Vec Ideal S1920x16 .f32) (hw : IsTable w) (r : Fin 256) (q : Fin 15) :
    k0_pay3 (k0_pay46 x p w) w (ix2 (q.castLT (by have := q.isLt; omega)) r) = ∑ l : Fin 2048, part x p q (ix2 r l) := by
  rw [← rows_apply x p w hw, pay2_apply, pay3_apply]
  exact Finset.sum_congr rfl fun n _ => mul_comm _ _

/-! ## The quantities at an index -/

theorem ld_apply (x : Vec Ideal S3x256x2048 .f32) (c : Fin 3) (h) (r : Fin 256) (l : Fin 2048) :
    shapeCast S256x2048 (View.ld x (Rect.unit (s := S3x256x2048) ![c.val, 0, 0] S1x256x2048.size h)) shapeCasts_S1x256x2048_S256x2048 (ix2 r l)
      = x (ix3 c r l) := by
  rw [shapeCast_apply _ _ (ix2 r l) (ix3 (0 : Fin 1) r l) (by
    rw [Shape.rowMajor_val_two, Shape.rowMajor_val_three]
    show (0 * 256 + r.val) * 2048 + l.val = r.val * 2048 + l.val
    omega)]
  exact View.ld_unit_apply_of x _ _ h _ _ fun a => match a with
    | ⟨0, _⟩ => by show c.val = c.val + 0; omega
    | ⟨1, _⟩ => by show r.val = 0 + r.val; omega
    | ⟨2, _⟩ => by show l.val = 0 + l.val; omega

/-- A coordinate's, a column's and a product's place among the fifteen. -/
theorem part_x (x p : Vec Ideal S3x256x2048 .f32) (c : Fin 3) (r : Fin 256) (l : Fin 2048) :
    part x p ⟨c.val, by have := c.isLt; omega⟩ (ix2 r l) = x (ix3 c r l) :=
  match c with
  | ⟨0, _⟩ => ld_apply x 0 _ r l
  | ⟨1, _⟩ => ld_apply x 1 _ r l
  | ⟨2, _⟩ => ld_apply x 2 _ r l
theorem part_p (x p : Vec Ideal S3x256x2048 .f32) (c : Fin 3) (r : Fin 256) (l : Fin 2048) :
    part x p ⟨3 + c.val, by have := c.isLt; omega⟩ (ix2 r l) = p (ix3 c r l) :=
  match c with
  | ⟨0, _⟩ => ld_apply p 0 _ r l
  | ⟨1, _⟩ => ld_apply p 1 _ r l
  | ⟨2, _⟩ => ld_apply p 2 _ r l
theorem part_px (x p : Vec Ideal S3x256x2048 .f32) (k j : Fin 3) (r : Fin 256) (l : Fin 2048) :
    part x p ⟨6 + 3 * k.val + j.val, by have := k.isLt; have := j.isLt; omega⟩ (ix2 r l) = p (ix3 k r l) * x (ix3 j r l) := by
  rw [← part_p x p k r l, ← part_x x p j r l]
  match k, j with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl
  | ⟨2, _⟩, ⟨0, _⟩ => rfl
  | ⟨2, _⟩, ⟨1, _⟩ => rfl
  | ⟨2, _⟩, ⟨2, _⟩ => rfl

end Cert.KernelIdeal.Stats

end
-- ==== Proof.Layers.lean ====
/-
  Three layers written one after another, read at an index.
-/
module

public import proofs.«01_k».proof.Proof.Stats

@[expose] public section

set_option maxRecDepth 16384

noncomputable section

namespace Cert.Layers

open Idealize.ShloMosaic

variable {R C : Nat}

theorem layer_emb (j : Fin 3) (h : ∀ d, (![j.val, 0, 0] : Fin 3 → Nat) d + (⟨3, ![1, R, C]⟩ : Shape).size d ≤ (⟨3, ![3, R, C]⟩ : Shape).size d)
    (a : Fin R) (b : Fin C) :
    (Rect.unit (s := ⟨3, ![3, R, C]⟩) ![j.val, 0, 0] (⟨3, ![1, R, C]⟩ : Shape).size h).emb (ix3 (0 : Fin 1) a b) = ix3 j a b :=
  funext fun d => Fin.ext (match d with
    | ⟨0, _⟩ => by show j.val + 1 * 0 = j.val; omega
    | ⟨1, _⟩ => by show 0 + 1 * a.val = a.val; omega
    | ⟨2, _⟩ => by show 0 + 1 * b.val = b.val; omega)

theorem layer_not_mem (i j : Fin 3) (h : ∀ d, (![j.val, 0, 0] : Fin 3 → Nat) d + (⟨3, ![1, R, C]⟩ : Shape).size d ≤ (⟨3, ![3, R, C]⟩ : Shape).size d)
    (a : Fin R) (b : Fin C) (hij : i ≠ j) :
    (ix3 i a b : (⟨3, ![3, R, C]⟩ : Shape).Idx) ∉ (Rect.unit (s := ⟨3, ![3, R, C]⟩) ![j.val, 0, 0] (⟨3, ![1, R, C]⟩ : Shape).size h).set := fun hm => by
  have h0 := Rect.mem_set_unit.1 hm (0 : Fin 3)
  have h1 : j.val ≤ i.val := h0.1
  have h2 : i.val < j.val + 1 := h0.2
  exact hij (Fin.ext (by omega))

theorem top {s : Shape} (r : Rect s) (w : r.shape.Idx → Elt Ideal .f32) (L : List (View.Piece (Elt Ideal) s .f32)) {x : r.shape.Idx} {y : s.Idx}
    (h : r.emb x = y) : View.canon (⟨r, w⟩ :: L) y = w x := by
  subst h; exact View.canon_cons_emb r w L x

theorem skip {s : Shape} (r : Rect s) (w : r.shape.Idx → Elt Ideal .f32) (L : List (View.Piece (Elt Ideal) s .f32)) {y : s.Idx}
    (h : y ∉ r.set) : View.canon (⟨r, w⟩ :: L) y = View.canon L y :=
  View.canon_cons_of_not_mem ⟨r, w⟩ L h

/-- The layer of an index, among three. -/
def pick {α : Type} (p0 p1 p2 : α) : Fin 3 → α
  | 0 => p0
  | 1 => p1
  | 2 => p2

theorem layers (h0 h1 h2) (p0 p1 p2 : Vec Ideal ⟨3, ![1, R, C]⟩ .f32) (i : Fin 3) (a : Fin R) (b : Fin C) :
    View.canon ([⟨Rect.unit (s := ⟨3, ![3, R, C]⟩) ![2, 0, 0] (⟨3, ![1, R, C]⟩ : Shape).size h2, p2⟩,
      ⟨Rect.unit (s := ⟨3, ![3, R, C]⟩) ![1, 0, 0] (⟨3, ![1, R, C]⟩ : Shape).size h1, p1⟩,
      ⟨Rect.unit (s := ⟨3, ![3, R, C]⟩) ![0, 0, 0] (⟨3, ![1, R, C]⟩ : Shape).size h0, p0⟩] : List (View.Piece (Elt Ideal) ⟨3, ![3, R, C]⟩ .f32)) (ix3 i a b)
      = pick p0 p1 p2 i (ix3 (0 : Fin 1) a b) := by
  match i with
  | ⟨0, _⟩ =>
    exact (skip _ _ _ (layer_not_mem 0 2 h2 a b (by decide))).trans
      ((skip _ _ _ (layer_not_mem 0 1 h1 a b (by decide))).trans (top _ _ _ (layer_emb 0 h0 a b)))
  | ⟨1, _⟩ => exact (skip _ _ _ (layer_not_mem 1 2 h2 a b (by decide))).trans (top _ _ _ (layer_emb 1 h1 a b))
  | ⟨2, _⟩ => exact top _ _ _ (layer_emb 2 h2 a b)

end Cert.Layers

end
-- ==== Proof.Spec.lean ====
/-
  The Gram-Schmidt step on three rows of three numbers, and the bias it turns, as functions of extended reals.
-/
module

public import proofs.«01_k».proof.Proof.Layers

@[expose] public section

noncomputable section

namespace Cert.Spec

open Idealize.ShloMosaic

/-- The small number added to a divisor. -/
def eps : EReal := Ideal.ofBits .f32 0x3727C5AC#32
/-- One over the number of points of a row. -/
def inv : EReal := Ideal.ofBits .f32 0x3A000000#32

def dot (u v : Fin 3 → EReal) : EReal := u 0 * v 0 + u 1 * v 1 + u 2 * v 2
/-- A row over its length. -/
def unit (u : Fin 3 → EReal) (j : Fin 3) : EReal := Ideal.div (u j) (Ideal.sqrt (dot u u))
/-- How much of `u` is in `w`. -/
def coef (w u : Fin 3 → EReal) : EReal := Ideal.div (dot w u) (dot u u + eps)
/-- The second row less its share of the first. -/
def second (v : Fin 3 → Fin 3 → EReal) (j : Fin 3) : EReal := v 1 j - coef (v 1) (v 0) * v 0 j
/-- The third row less its shares of the first two. -/
def third (v : Fin 3 → Fin 3 → EReal) (j : Fin 3) : EReal :=
  v 2 j - coef (v 2) (v 0) * v 0 j - coef (v 2) (second v) * second v j
/-- A row over its length and the small number. -/
def short (u : Fin 3 → EReal) (j : Fin 3) : EReal := Ideal.div (u j) (Ideal.sqrt (dot u u) + eps)
/-- The three rows against the bias, at one coordinate. -/
def turn (v : Fin 3 → Fin 3 → EReal) (b : Fin 3 → EReal) (i : Fin 3) : EReal :=
  short (v 0) i * b 0 + short (second v) i * b 1 + short (third v) i * b 2

/-- A quantity's column among the sixteen stored. -/
abbrev q16 (q : Fin 15) : Fin 16 := q.castLT (by have := q.isLt; omega)

/-- The fifteen quantities of a point: its coordinates, its projection columns, and their products. -/
def term (x p : Fin 3 → EReal) : Fin 15 → EReal
  | 0 => x 0
  | 1 => x 1
  | 2 => x 2
  | 3 => p 0
  | 4 => p 1
  | 5 => p 2
  | 6 => p 0 * x 0
  | 7 => p 0 * x 1
  | 8 => p 0 * x 2
  | 9 => p 1 * x 0
  | 10 => p 1 * x 1
  | 11 => p 1 * x 2
  | 12 => p 2 * x 0
  | 13 => p 2 * x 1
  | 14 => p 2 * x 2

/-- The sums of the fifteen quantities over the points of row `s`. -/
def sums (X P : (⟨3, ![3, 8192, 2048]⟩ : Shape).Idx → EReal) (s : Fin 8192) (q : Fin 15) : EReal :=
  ∑ l : Fin 2048, term (fun c => X (ix3 c s l)) (fun c => P (ix3 c s l)) q

/-- The start of the Gram-Schmidt step from the fifteen sums of a row: `Σ pₖ xⱼ - (Σ pₖ) μⱼ`. -/
def init (s : Fin 15 → EReal) : Fin 3 → Fin 3 → EReal
  | 0, 0 => s 6 - s 3 * (s 0 * inv)
  | 0, 1 => s 7 - s 3 * (s 1 * inv)
  | 0, 2 => s 8 - s 3 * (s 2 * inv)
  | 1, 0 => s 9 - s 4 * (s 0 * inv)
  | 1, 1 => s 10 - s 4 * (s 1 * inv)
  | 1, 2 => s 11 - s 4 * (s 2 * inv)
  | 2, 0 => s 12 - s 5 * (s 0 * inv)
  | 2, 1 => s 13 - s 5 * (s 1 * inv)
  | 2, 2 => s 14 - s 5 * (s 2 * inv)

/-- The turned bias from the fifteen sums of a row. -/
def bias (s : Fin 15 → EReal) (b : Fin 3 → EReal) (i : Fin 3) : EReal := turn (fun k => unit (init s k)) b i

end Cert.Spec

end
-- ==== Proof.Gsp.lean ====
/-
  The second kernel's block: its result at an index is the turned bias of the fifteen sums and the bias at that index.
-/
module

public import proofs.«01_k».proof.Proof.Spec

@[expose] public section

set_option maxRecDepth 16384

noncomputable section

namespace Cert.KernelIdeal.Gsp

open Cert.KernelIdeal Cert.KernelIdeal.Gen Idealize.ShloMosaic Cert.Spec

theorem stat_ld (x : Vec Ideal S16x32x128 .f32) (q : Fin 16) (h) (a : Fin 32) (b : Fin 128) :
    shapeCast S32x128 (View.ld x (Rect.unit (s := S16x32x128) ![q.val, 0, 0] S1x32x128.size h)) shapeCasts_S1x32x128_S32x128 (ix2 a b)
      = x (ix3 q a b) := by
  rw [shapeCast_apply _ _ (ix2 a b) (ix3 (0 : Fin 1) a b) (by
    rw [Shape.rowMajor_val_two, Shape.rowMajor_val_three]
    show (0 * 32 + a.val) * 128 + b.val = a.val * 128 + b.val
    omega)]
  exact View.ld_unit_apply_of x _ _ h _ _ fun d => match d with
    | ⟨0, _⟩ => by show q.val = q.val + 0; omega
    | ⟨1, _⟩ => by show a.val = 0 + a.val; omega
    | ⟨2, _⟩ => by show b.val = 0 + b.val; omega

theorem bias_ld (x : Vec Ideal S3x32x128 .f32) (q : Fin 3) (h) (a : Fin 32) (b : Fin 128) :
    shapeCast S32x128 (View.ld x (Rect.unit (s := S3x32x128) ![q.val, 0, 0] S1x32x128.size h)) shapeCasts_S1x32x128_S32x128 (ix2 a b)
      = x (ix3 q a b) := by
  rw [shapeCast_apply _ _ (ix2 a b) (ix3 (0 : Fin 1) a b) (by
    rw [Shape.rowMajor_val_two, Shape.rowMajor_val_three]
    show (0 * 32 + a.val) * 128 + b.val = a.val * 128 + b.val
    omega)]
  exact View.ld_unit_apply_of x _ _ h _ _ fun d => match d with
    | ⟨0, _⟩ => by show q.val = q.val + 0; omega
    | ⟨1, _⟩ => by show a.val = 0 + a.val; omega
    | ⟨2, _⟩ => by show b.val = 0 + b.val; omega

/-- A value written back as a row of one layer. -/
theorem out_at (v : FVec Ideal S32x128 .f32) (a : Fin 32) (b : Fin 128) :
    shapeCast S1x32x128 v shapeCasts_S32x128_S1x32x128 (ix3 (0 : Fin 1) a b) = v (ix2 a b) :=
  shapeCast_apply _ _ _ (ix2 a b) (by
    rw [Shape.rowMajor_val_two, Shape.rowMajor_val_three]
    show a.val * 128 + b.val = (0 * 32 + a.val) * 128 + b.val
    omega)

section

variable (x0 : Vec Ideal S16x32x128 .f32) (x1 : Vec Ideal S3x32x128 .f32) (a : Fin 32) (b : Fin 128)

/-- The fifteen sums at an index of the block. -/
def st (q : Fin 15) : EReal := x0 (ix3 (q.castLT (by have := q.isLt; omega) : Fin 16) a b)
/-- The bias at an index of the block. -/
def bs (q : Fin 3) : EReal := x1 (ix3 q a b)

/-- The three unit rows the step starts from. -/
abbrev rows (k : Fin 3) : Fin 3 → EReal := unit (init (st x0 a b) k)

theorem mean0 : k1_pay57 x0 x1 (ix2 a b) = st x0 a b 0 * inv := congrArg (· * inv) (stat_ld x0 0 _ a b)
theorem mean1 : k1_pay58 x0 x1 (ix2 a b) = st x0 a b 1 * inv := congrArg (· * inv) (stat_ld x0 1 _ a b)
theorem mean2 : k1_pay59 x0 x1 (ix2 a b) = st x0 a b 2 * inv := congrArg (· * inv) (stat_ld x0 2 _ a b)
theorem s3 : k1_pay60 x0 x1 (ix2 a b) = st x0 a b 3 := stat_ld x0 3 _ a b
theorem s4 : k1_pay61 x0 x1 (ix2 a b) = st x0 a b 4 := stat_ld x0 4 _ a b
theorem s5 : k1_pay62 x0 x1 (ix2 a b) = st x0 a b 5 := stat_ld x0 5 _ a b
theorem s6 : k1_pay63 x0 x1 (ix2 a b) = st x0 a b 6 := stat_ld x0 6 _ a b
theorem s7 : k1_pay64 x0 x1 (ix2 a b) = st x0 a b 7 := stat_ld x0 7 _ a b
theorem s8 : k1_pay65 x0 x1 (ix2 a b) = st x0 a b 8 := stat_ld x0 8 _ a b
theorem s9 : k1_pay66 x0 x1 (ix2 a b) = st x0 a b 9 := stat_ld x0 9 _ a b
theorem sub_at (u v w : FVec Ideal S32x128 .f32) (y : S32x128.Idx) {p q r : EReal} (hu : u y = p) (hv : v y = q) (hw : w y = r) :
    subf u (mulf v w) y = p - q * r := by
  show u y - v y * w y = _
  rw [hu, hv, hw]

theorem i00 : k1_pay12 (k1_pay57 x0 x1) (k1_pay60 x0 x1) (k1_pay63 x0 x1) (ix2 a b) = init (st x0 a b) 0 0 :=
  sub_at _ _ _ _ (s6 x0 x1 a b) (s3 x0 x1 a b) (mean0 x0 x1 a b)
theorem i01 : k1_pay13 (k1_pay58 x0 x1) (k1_pay60 x0 x1) (k1_pay64 x0 x1) (ix2 a b) = init (st x0 a b) 0 1 :=
  sub_at _ _ _ _ (s7 x0 x1 a b) (s3 x0 x1 a b) (mean1 x0 x1 a b)
theorem i02 : k1_pay14 (k1_pay59 x0 x1) (k1_pay60 x0 x1) (k1_pay65 x0 x1) (ix2 a b) = init (st x0 a b) 0 2 :=
  sub_at _ _ _ _ (s8 x0 x1 a b) (s3 x0 x1 a b) (mean2 x0 x1 a b)
theorem i10 : k1_pay15 (k1_pay57 x0 x1) (k1_pay61 x0 x1) (k1_pay66 x0 x1) (ix2 a b) = init (st x0 a b) 1 0 :=
  sub_at _ _ _ _ (s9 x0 x1 a b) (s4 x0 x1 a b) (mean0 x0 x1 a b)
theorem i11 : k1_pay16 (k1_pay58 x0 x1) (k1_pay61 x0 x1) (View.ld x0 r1_10) (ix2 a b) = init (st x0 a b) 1 1 :=
  sub_at _ _ _ _ (stat_ld x0 10 _ a b) (s4 x0 x1 a b) (mean1 x0 x1 a b)
theorem i12 : k1_pay17 (k1_pay59 x0 x1) (k1_pay61 x0 x1) (View.ld x0 r1_11) (ix2 a b) = init (st x0 a b) 1 2 :=
  sub_at _ _ _ _ (stat_ld x0 11 _ a b) (s4 x0 x1 a b) (mean2 x0 x1 a b)
theorem i20 : k1_pay68 x0 x1 (ix2 a b) = init (st x0 a b) 2 0 :=
  sub_at _ _ _ _ (stat_ld x0 12 _ a b) (s5 x0 x1 a b) (mean0 x0 x1 a b)
theorem i21 : k1_pay69 x0 x1 (ix2 a b) = init (st x0 a b) 2 1 :=
  sub_at _ _ _ _ (stat_ld x0 13 _ a b) (s5 x0 x1 a b) (mean1 x0 x1 a b)
theorem i22 : k1_pay70 x0 x1 (ix2 a b) = init (st x0 a b) 2 2 :=
  sub_at _ _ _ _ (stat_ld x0 14 _ a b) (s5 x0 x1 a b) (mean2 x0 x1 a b)

/-- The value `((u0 * v0 + u1 * v1) + u2 * v2)` at an index. -/
theorem dot_at (u0 u1 u2 v0 v1 v2 : FVec Ideal S32x128 .f32) (y : S32x128.Idx) {u v : Fin 3 → EReal}
    (h0 : u0 y = u 0) (h1 : u1 y = u 1) (h2 : u2 y = u 2) (k0 : v0 y = v 0) (k1 : v1 y = v 1) (k2 : v2 y = v 2) :
    addf (addf (mulf u0 v0) (mulf u1 v1)) (mulf u2 v2) y = dot u v := by
  show u0 y * v0 y + u1 y * v1 y + u2 y * v2 y = _
  rw [h0, h1, h2, k0, k1, k2]; rfl

theorem len_at (u0 u1 u2 : FVec Ideal S32x128 .f32) (y : S32x128.Idx) {u : Fin 3 → EReal}
    (h0 : u0 y = u 0) (h1 : u1 y = u 1) (h2 : u2 y = u 2) :
    sqrt (addf (addf (mulf u0 u0) (mulf u1 u1)) (mulf u2 u2)) y = Ideal.sqrt (dot u u) :=
  congrArg Ideal.sqrt (dot_at u0 u1 u2 u0 u1 u2 y h0 h1 h2 h0 h1 h2)

theorem div_at (u v : FVec Ideal S32x128 .f32) (y : S32x128.Idx) {p q : EReal} (hu : u y = p) (hv : v y = q) :
    divf u v y = Ideal.div p q := by
  show Ideal.div (u y) (v y) = _
  rw [hu, hv]

theorem add_eps (u : FVec Ideal S32x128 .f32) (y : S32x128.Idx) {p : EReal} (hu : u y = p) :
    addf u (broadcast S32x128 (Scalar.ofBits .f32 0x3727C5AC#32 : Ideal .f32)) y = p + eps := congrArg (· + eps) hu

theorem n0 : k1_pay21 (k1_pay57 x0 x1) (k1_pay58 x0 x1) (k1_pay59 x0 x1) (k1_pay60 x0 x1) (k1_pay63 x0 x1) (k1_pay64 x0 x1) (k1_pay65 x0 x1) (ix2 a b)
    = Ideal.sqrt (dot (init (st x0 a b) 0) (init (st x0 a b) 0)) := len_at _ _ _ _ (i00 x0 x1 a b) (i01 x0 x1 a b) (i02 x0 x1 a b)
theorem v00 : k1_pay71 x0 x1 (ix2 a b) = rows x0 a b 0 0 := div_at _ _ _ (i00 x0 x1 a b) (n0 x0 x1 a b)
theorem v01 : k1_pay72 x0 x1 (ix2 a b) = rows x0 a b 0 1 := div_at _ _ _ (i01 x0 x1 a b) (n0 x0 x1 a b)
theorem v02 : k1_pay73 x0 x1 (ix2 a b) = rows x0 a b 0 2 := div_at _ _ _ (i02 x0 x1 a b) (n0 x0 x1 a b)
theorem n1 : k1_pay74 x0 x1 (ix2 a b) = Ideal.sqrt (dot (init (st x0 a b) 1) (init (st x0 a b) 1)) :=
  len_at _ _ _ _ (i10 x0 x1 a b) (i11 x0 x1 a b) (i12 x0 x1 a b)
theorem v10 : k1_pay75 x0 x1 (ix2 a b) = rows x0 a b 1 0 := div_at _ _ _ (i10 x0 x1 a b) (n1 x0 x1 a b)
theorem v11 : k1_pay76 x0 x1 (ix2 a b) = rows x0 a b 1 1 := div_at _ _ _ (i11 x0 x1 a b) (n1 x0 x1 a b)
theorem v12 : k1_pay28 (k1_pay67 x0 x1) (k1_pay74 x0 x1) (ix2 a b) = rows x0 a b 1 2 :=
  div_at _ _ _ (i12 x0 x1 a b) (n1 x0 x1 a b)
theorem n2 : k1_pay29 (k1_pay68 x0 x1) (k1_pay69 x0 x1) (k1_pay70 x0 x1) (ix2 a b)
    = Ideal.sqrt (dot (init (st x0 a b) 2) (init (st x0 a b) 2)) := len_at _ _ _ _ (i20 x0 x1 a b) (i21 x0 x1 a b) (i22 x0 x1 a b)
theorem v20 : k1_pay30 (k1_pay68 x0 x1) (k1_pay69 x0 x1) (k1_pay70 x0 x1) (ix2 a b) = rows x0 a b 2 0 :=
  div_at _ _ _ (i20 x0 x1 a b) (n2 x0 x1 a b)
theorem v21 : k1_pay31 (k1_pay68 x0 x1) (k1_pay69 x0 x1) (k1_pay70 x0 x1) (ix2 a b) = rows x0 a b 2 1 :=
  div_at _ _ _ (i21 x0 x1 a b) (n2 x0 x1 a b)
theorem v22 : k1_pay32 (k1_pay68 x0 x1) (k1_pay69 x0 x1) (k1_pay70 x0 x1) (ix2 a b) = rows x0 a b 2 2 :=
  div_at _ _ _ (i22 x0 x1 a b) (n2 x0 x1 a b)

theorem d00 : k1_pay33 (k1_pay71 x0 x1) (k1_pay72 x0 x1) (k1_pay73 x0 x1) (ix2 a b) = dot (rows x0 a b 0) (rows x0 a b 0) + eps :=
  add_eps _ _ (dot_at _ _ _ _ _ _ _ (v00 x0 x1 a b) (v01 x0 x1 a b) (v02 x0 x1 a b) (v00 x0 x1 a b) (v01 x0 x1 a b) (v02 x0 x1 a b))
theorem c10 : k1_pay34 (k1_pay67 x0 x1) (k1_pay71 x0 x1) (k1_pay72 x0 x1) (k1_pay73 x0 x1) (k1_pay74 x0 x1) (k1_pay75 x0 x1) (k1_pay76 x0 x1) (ix2 a b)
    = coef (rows x0 a b 1) (rows x0 a b 0) :=
  div_at _ _ _ (dot_at _ _ _ _ _ _ _ (v10 x0 x1 a b) (v11 x0 x1 a b) (v12 x0 x1 a b) (v00 x0 x1 a b) (v01 x0 x1 a b) (v02 x0 x1 a b)) (d00 x0 x1 a b)
theorem u10 : k1_pay77 x0 x1 (ix2 a b) = second (rows x0 a b) 0 := sub_at _ _ _ _ (v10 x0 x1 a b) (c10 x0 x1 a b) (v00 x0 x1 a b)
theorem u11 : k1_pay78 x0 x1 (ix2 a b) = second (rows x0 a b) 1 := sub_at _ _ _ _ (v11 x0 x1 a b) (c10 x0 x1 a b) (v01 x0 x1 a b)
theorem u12 : k1_pay79 x0 x1 (ix2 a b) = second (rows x0 a b) 2 := sub_at _ _ _ _ (v12 x0 x1 a b) (c10 x0 x1 a b) (v02 x0 x1 a b)
theorem c20 : k1_pay38 (k1_pay68 x0 x1) (k1_pay69 x0 x1) (k1_pay70 x0 x1) (k1_pay71 x0 x1) (k1_pay72 x0 x1) (k1_pay73 x0 x1) (ix2 a b)
    = coef (rows x0 a b 2) (rows x0 a b 0) :=
  div_at _ _ _ (dot_at _ _ _ _ _ _ _ (v20 x0 x1 a b) (v21 x0 x1 a b) (v22 x0 x1 a b) (v00 x0 x1 a b) (v01 x0 x1 a b) (v02 x0 x1 a b)) (d00 x0 x1 a b)
theorem c21 : k1_pay80 x0 x1 (ix2 a b) = coef (rows x0 a b 2) (second (rows x0 a b)) :=
  div_at _ _ _ (dot_at _ _ _ _ _ _ _ (v20 x0 x1 a b) (v21 x0 x1 a b) (v22 x0 x1 a b) (u10 x0 x1 a b) (u11 x0 x1 a b) (u12 x0 x1 a b))
    (add_eps _ _ (dot_at _ _ _ _ _ _ _ (u10 x0 x1 a b) (u11 x0 x1 a b) (u12 x0 x1 a b) (u10 x0 x1 a b) (u11 x0 x1 a b) (u12 x0 x1 a b)))
theorem u20 : k1_pay81 x0 x1 (ix2 a b) = third (rows x0 a b) 0 :=
  sub_at _ _ _ _ (sub_at _ _ _ _ (v20 x0 x1 a b) (c20 x0 x1 a b) (v00 x0 x1 a b)) (c21 x0 x1 a b) (u10 x0 x1 a b)
theorem u21 : k1_pay82 x0 x1 (ix2 a b) = third (rows x0 a b) 1 :=
  sub_at _ _ _ _ (sub_at _ _ _ _ (v21 x0 x1 a b) (c20 x0 x1 a b) (v01 x0 x1 a b)) (c21 x0 x1 a b) (u11 x0 x1 a b)
theorem u22 : k1_pay43 (k1_pay79 x0 x1) (k1_pay80 x0 x1) (k1_pay83 x0 x1) (ix2 a b) = third (rows x0 a b) 2 :=
  sub_at _ _ _ _ (sub_at _ _ _ _ (v22 x0 x1 a b) (c20 x0 x1 a b) (v02 x0 x1 a b)) (c21 x0 x1 a b) (u12 x0 x1 a b)

theorem l0 : k1_pay44 (k1_pay71 x0 x1) (k1_pay72 x0 x1) (k1_pay73 x0 x1) (ix2 a b) = Ideal.sqrt (dot (rows x0 a b 0) (rows x0 a b 0)) + eps :=
  add_eps _ _ (len_at _ _ _ _ (v00 x0 x1 a b) (v01 x0 x1 a b) (v02 x0 x1 a b))
theorem l1 : k1_pay47 (k1_pay77 x0 x1) (k1_pay78 x0 x1) (k1_pay79 x0 x1) (ix2 a b)
    = Ideal.sqrt (dot (second (rows x0 a b)) (second (rows x0 a b))) + eps :=
  add_eps _ _ (len_at _ _ _ _ (u10 x0 x1 a b) (u11 x0 x1 a b) (u12 x0 x1 a b))
theorem l2 : k1_pay50 (k1_pay79 x0 x1) (k1_pay80 x0 x1) (k1_pay81 x0 x1) (k1_pay82 x0 x1) (k1_pay83 x0 x1) (ix2 a b)
    = Ideal.sqrt (dot (third (rows x0 a b)) (third (rows x0 a b))) + eps :=
  add_eps _ _ (len_at _ _ _ _ (u20 x0 x1 a b) (u21 x0 x1 a b) (u22 x0 x1 a b))

theorem mix_at (u0 u1 u2 : FVec Ideal S32x128 .f32) (i : Fin 3) (h0 : u0 (ix2 a b) = short (rows x0 a b 0) i)
    (h1 : u1 (ix2 a b) = short (second (rows x0 a b)) i) (h2 : u2 (ix2 a b) = short (third (rows x0 a b)) i) :
    addf (addf (mulf u0 (shapeCast S32x128 (View.ld x1 r1_15) shapeCasts_S1x32x128_S32x128))
      (mulf u1 (shapeCast S32x128 (View.ld x1 r1_16) shapeCasts_S1x32x128_S32x128)))
      (mulf u2 (shapeCast S32x128 (View.ld x1 r1_17) shapeCasts_S1x32x128_S32x128)) (ix2 a b)
      = bias (st x0 a b) (bs x1 a b) i :=
  dot_at _ _ _ _ _ _ _ (u := ![short (rows x0 a b 0) i, short (second (rows x0 a b)) i, short (third (rows x0 a b)) i]) h0 h1 h2
    (bias_ld x1 0 _ a b) (bias_ld x1 1 _ a b) (bias_ld x1 2 _ a b)

theorem out0 : k1_pay54 (k1_pay53 (k1_pay71 x0 x1) (k1_pay72 x0 x1) (k1_pay73 x0 x1) (k1_pay77 x0 x1) (k1_pay78 x0 x1) (k1_pay79 x0 x1) (k1_pay80 x0 x1) (k1_pay81 x0 x1) (k1_pay82 x0 x1) (k1_pay83 x0 x1) (View.ld x1 r1_15) (View.ld x1 r1_16) (View.ld x1 r1_17)) (ix3 (0 : Fin 1) a b)
    = bias (st x0 a b) (bs x1 a b) 0 :=
  (out_at _ a b).trans (mix_at x0 x1 a b _ _ _ 0 (div_at _ _ _ (v00 x0 x1 a b) (l0 x0 x1 a b)) (div_at _ _ _ (u10 x0 x1 a b) (l1 x0 x1 a b))
    (div_at _ _ _ (u20 x0 x1 a b) (l2 x0 x1 a b)))
theorem out1 : k1_pay55 (k1_pay45 (k1_pay71 x0 x1) (k1_pay72 x0 x1) (k1_pay73 x0 x1)) (k1_pay48 (k1_pay77 x0 x1) (k1_pay78 x0 x1) (k1_pay79 x0 x1)) (k1_pay51 (k1_pay79 x0 x1) (k1_pay80 x0 x1) (k1_pay81 x0 x1) (k1_pay82 x0 x1) (k1_pay83 x0 x1)) (View.ld x1 r1_15) (View.ld x1 r1_16) (View.ld x1 r1_17) (ix3 (0 : Fin 1) a b)
    = bias (st x0 a b) (bs x1 a b) 1 :=
  (out_at _ a b).trans (mix_at x0 x1 a b _ _ _ 1 (div_at _ _ _ (v01 x0 x1 a b) (l0 x0 x1 a b)) (div_at _ _ _ (u11 x0 x1 a b) (l1 x0 x1 a b))
    (div_at _ _ _ (u21 x0 x1 a b) (l2 x0 x1 a b)))
theorem out2 : k1_pay1 (k1_pay56 (k1_pay46 (k1_pay71 x0 x1) (k1_pay72 x0 x1) (k1_pay73 x0 x1)) (k1_pay49 (k1_pay77 x0 x1) (k1_pay78 x0 x1) (k1_pay79 x0 x1)) (k1_pay52 (k1_pay79 x0 x1) (k1_pay80 x0 x1) (k1_pay81 x0 x1) (k1_pay82 x0 x1) (k1_pay83 x0 x1)) (View.ld x1 r1_15) (View.ld x1 r1_16) (View.ld x1 r1_17)) (ix3 (0 : Fin 1) a b)
    = bias (st x0 a b) (bs x1 a b) 2 :=
  (out_at _ a b).trans (mix_at x0 x1 a b _ _ _ 2 (div_at _ _ _ (v02 x0 x1 a b) (l0 x0 x1 a b)) (div_at _ _ _ (u12 x0 x1 a b) (l1 x0 x1 a b))
    (div_at _ _ _ (u22 x0 x1 a b) (l2 x0 x1 a b)))

end

/-- The block's result at an index. -/
theorem out_apply (x0 : Vec Ideal S16x32x128 .f32) (x1 : Vec Ideal S3x32x128 .f32) (i : Fin 3) (a : Fin 32) (b : Fin 128) :
    out1_2 x0 x1 (ix3 i a b) = bias (st x0 a b) (bs x1 a b) i := by
  unfold out1_2
  refine (Layers.layers _ _ _ _ _ _ i a b).trans ?_
  match i with
  | ⟨0, _⟩ => exact out0 x0 x1 a b
  | ⟨1, _⟩ => exact out1 x0 x1 a b
  | ⟨2, _⟩ => exact out2 x0 x1 a b

end Cert.KernelIdeal.Gsp

end
-- ==== Proof.Region0.lean ====
/-
  The first kernel's two result arrays: the sums of the fifteen quantities over each row's points, and the same transposed.
-/
module

public import proofs.«01_k».proof.Proof.Gsp

@[expose] public section

set_option maxRecDepth 16384

noncomputable section

namespace Cert.KernelIdeal.Region0

open Cert.KernelIdeal Cert.KernelIdeal.Gen Idealize.ShloMosaic Idealize.ShloMosaic.TcCoe Idealize.ShloMosaic.Pipeline Cert.Spec

theorem part_apply (x p : Vec Ideal S3x256x2048 .f32) (q : Fin 15) (r : Fin 256) (l : Fin 2048) :
    Stats.part x p q (ix2 r l) = term (fun c => x (ix3 c r l)) (fun c => p (ix3 c r l)) q := by
  have hx (c : Fin 3) := Stats.part_x x p c r l
  have hp (c : Fin 3) := Stats.part_p x p c r l
  have hm (k j : Fin 3) := Stats.part_px x p k j r l
  match q with
  | ⟨0, _⟩ => exact hx 0
  | ⟨1, _⟩ => exact hx 1
  | ⟨2, _⟩ => exact hx 2
  | ⟨3, _⟩ => exact hp 0
  | ⟨4, _⟩ => exact hp 1
  | ⟨5, _⟩ => exact hp 2
  | ⟨6, _⟩ => exact hm 0 0
  | ⟨7, _⟩ => exact hm 0 1
  | ⟨8, _⟩ => exact hm 0 2
  | ⟨9, _⟩ => exact hm 1 0
  | ⟨10, _⟩ => exact hm 1 1
  | ⟨11, _⟩ => exact hm 1 2
  | ⟨12, _⟩ => exact hm 2 0
  | ⟨13, _⟩ => exact hm 2 1
  | ⟨14, _⟩ => exact hm 2 2

theorem hz2 : (![0, 0] : Fin 2 → Nat) = fun _ => 0 := funext fun a => by fin_cases a <;> rfl

theorem index0 : ∀ t : Fin cfg0.N, win0_0.index t = ![0, t.val, 0] := (by decide +kernel : ∀ t : Fin grid0.N, win0_0.index t = ![0, t.val, 0])
theorem index1 : ∀ t : Fin cfg0.N, win0_1.index t = ![0, t.val, 0] := (by decide +kernel : ∀ t : Fin grid0.N, win0_1.index t = ![0, t.val, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])
theorem index4 : ∀ t : Fin cfg0.N, win0_4.index t = ![0, t.val] := (by decide +kernel : ∀ t : Fin grid0.N, win0_4.index t = ![0, t.val])

variable (V : (c : Dev nD) → (b : Ref sig .tc) → Buf (Elt Ideal) ((c : Thread nD τ).loc b))

theorem lt32 (t : Fin cfg0.N) : t.val < 32 := (show cfg0.N = 32 from N_0) ▸ t.isLt

theorem read_x (c : Dev nD) (t : Fin cfg0.N) (k : Fin 3) (r : Fin 256) (l : Fin 2048) (h : t.val * 256 + r.val < 8192) :
    (iblk0 V c 0 t : Vec Ideal S3x256x2048 .f32) (ix3 k r l) = V c main_v1 (ix3 k (⟨t.val * 256 + r.val, h⟩ : Fin 8192) l) := by
  blk_simp [iblk0, index0]
  refine congrArg (V c main_v1) ?_
  blk_ext [index0]

theorem read_p (c : Dev nD) (t : Fin cfg0.N) (k : Fin 3) (r : Fin 256) (l : Fin 2048) (h : t.val * 256 + r.val < 8192) :
    (iblk0 V c 1 t : Vec Ideal S3x256x2048 .f32) (ix3 k r l) = V c main_v3 (ix3 k (⟨t.val * 256 + r.val, h⟩ : Fin 8192) l) := by
  blk_simp [iblk0, index1]
  refine congrArg (V c main_v3) ?_
  blk_ext [index1]

theorem read_w (c : Dev nD) (t : Fin cfg0.N) (n : Fin 1920) (q : Fin 16) :
    (iblk0 V c 2 t : Vec Ideal S1920x16 .f32) (ix2 n q) = V c main_cst (ix2 n q) := by
  blk_simp [iblk0, index2]
  refine congrArg (V c main_cst) ?_
  blk_ext [index2]

theorem block_sum (c : Dev nD) (t : Fin cfg0.N) (q : Fin 15) (r : Fin 256) (h : t.val * 256 + r.val < 8192) :
    ∑ l : Fin 2048, Stats.part (iblk0 V c 0 t) (iblk0 V c 1 t) q (ix2 r l)
      = sums (V c main_v1) (V c main_v3) ⟨t.val * 256 + r.val, h⟩ q := by
  refine Finset.sum_congr rfl fun l _ => ?_
  rw [part_apply, funext fun k => read_x V c t k r l h, funext fun k => read_p V c t k r l h]

theorem table (c : Dev nD) (t : Fin cfg0.N) (hw : Stats.IsTable (V c main_cst)) : Stats.IsTable (iblk0 V c 2 t) :=
  fun n q => (read_w V c t n q).trans (hw n q)

/-- The first result: row `s`, quantity `q`. -/
theorem rows (c : Dev nD) (hw : Stats.IsTable (V c main_cst)) (s : Fin 8192) (q : Fin 15) :
    (dat0 V c).arrAt 3 cfg0.N (ix2 s (q16 q)) = sums (V c main_v1) (V c main_v3) s q := by
  refine (dat0 V c).arrAt_forall_of_covers 3 (fun i v => ∀ (s : Fin 8192) (q : Fin 15),
    i = ix2 s (q16 q) → v = sums (V c main_v1) (V c main_v3) s q) (by decide +kernel) ?_ _ (Memref.isWhole_whole _) s q rfl
  intro t hf y s q hi
  have h0 := congrArg (fun i : S8192x16.Idx => (i 0).val) hi
  have h1 := congrArg (fun i : S8192x16.Idx => (i 1).val) hi
  blk_simp [index3] at h0 h1 ⊢
  obtain ⟨r, k, rfl⟩ : ∃ (r : Fin 256) (k : Fin 16), y = ix2 r k := ⟨y 0, y 1, funext fun a => match a with | ⟨0, _⟩ => rfl | ⟨1, _⟩ => rfl⟩
  have h0' : t.val * 256 + r.val = s.val := h0
  have h1' : k.val = q.val := h1
  have hlt : t.val * 256 + r.val < 8192 := by have := s.isLt; omega
  obtain rfl : s = ⟨t.val * 256 + r.val, hlt⟩ := Fin.ext h0'.symm
  obtain rfl : k = q16 q := Fin.ext h1'
  rw [after0_3]
  unfold out0_3
  rw [View.canon_unit_zero hz2, View.ld_unit_zero hz2]
  exact (Stats.rows_apply _ _ _ (table V c t hw) r q).trans (block_sum V c t q r _)

/-- The second result: quantity `q`, row `s`. -/
theorem cols (c : Dev nD) (hw : Stats.IsTable (V c main_cst)) (q : Fin 15) (s : Fin 8192) :
    (dat0 V c).arrAt 4 cfg0.N (ix2 (q16 q) s) = sums (V c main_v1) (V c main_v3) s q := by
  refine (dat0 V c).arrAt_forall_of_covers 4 (fun i v => ∀ (s : Fin 8192) (q : Fin 15),
    i = ix2 (q16 q) s → v = sums (V c main_v1) (V c main_v3) s q) (by decide +kernel) ?_ _ (Memref.isWhole_whole _) s q rfl
  intro t hf y s q hi
  have h0 := congrArg (fun i : S16x8192.Idx => (i 0).val) hi
  have h1 := congrArg (fun i : S16x8192.Idx => (i 1).val) hi
  blk_simp [index4] at h0 h1 ⊢
  obtain ⟨k, r, rfl⟩ : ∃ (k : Fin 16) (r : Fin 256), y = ix2 k r := ⟨y 0, y 1, funext fun a => match a with | ⟨0, _⟩ => rfl | ⟨1, _⟩ => rfl⟩
  have h1' : t.val * 256 + r.val = s.val := h1
  have h0' : k.val = q.val := h0
  have hlt : t.val * 256 + r.val < 8192 := by have := s.isLt; omega
  obtain rfl : s = ⟨t.val * 256 + r.val, hlt⟩ := Fin.ext h1'.symm
  obtain rfl : k = q16 q := Fin.ext h0'
  rw [after0_4]
  unfold out0_4
  rw [View.canon_unit_zero hz2, View.ld_unit_zero hz2]
  exact (Stats.cols_apply _ _ _ (table V c t hw) r q).trans (block_sum V c t q r _)

end Cert.KernelIdeal.Region0

end
-- ==== Proof.Region1.lean ====
/-
  The second kernel's result array: the turned bias of each row.
-/
module

public import proofs.«01_k».proof.Proof.Region0

@[expose] public section

set_option maxRecDepth 16384

noncomputable section

namespace Cert.KernelIdeal.Region1

open Cert.KernelIdeal Cert.KernelIdeal.Gen Idealize.ShloMosaic Idealize.ShloMosaic.TcCoe Idealize.ShloMosaic.Pipeline Cert.Spec

theorem index0 : ∀ t : Fin cfg1.N, win1_0.index t = ![0, t.val, 0] := (by decide +kernel : ∀ t : Fin grid1.N, win1_0.index t = ![0, t.val, 0])
theorem index1 : ∀ t : Fin cfg1.N, win1_1.index t = ![0, t.val, 0] := (by decide +kernel : ∀ t : Fin grid1.N, win1_1.index t = ![0, t.val, 0])
theorem index2 : ∀ t : Fin cfg1.N, win1_2.index t = ![0, t.val, 0] := (by decide +kernel : ∀ t : Fin grid1.N, win1_2.index t = ![0, t.val, 0])

variable (V : (c : Dev nD) → (b : Ref sig .tc) → Buf (Elt Ideal) ((c : Thread nD τ).loc b))

theorem read_s (c : Dev nD) (t : Fin cfg1.N) (q : Fin 16) (a : Fin 32) (b : Fin 128) (h : t.val * 32 + a.val < 64) :
    (iblk1 V c 0 t : Vec Ideal S16x32x128 .f32) (ix3 q a b) = V c main_v5 (ix3 q (⟨t.val * 32 + a.val, h⟩ : Fin 64) b) := by
  blk_simp [iblk1, index0]
  refine congrArg (V c main_v5) ?_
  blk_ext [index0]

theorem read_b (c : Dev nD) (t : Fin cfg1.N) (q : Fin 3) (a : Fin 32) (b : Fin 128) (h : t.val * 32 + a.val < 64) :
    (iblk1 V c 1 t : Vec Ideal S3x32x128 .f32) (ix3 q a b) = V c main_v7 (ix3 q (⟨t.val * 32 + a.val, h⟩ : Fin 64) b) := by
  blk_simp [iblk1, index1]
  refine congrArg (V c main_v7) ?_
  blk_ext [index1]

theorem turned (c : Dev nD) (i : Fin 3) (a : Fin 64) (b : Fin 128) :
    (dat1 V c).arrAt 2 cfg1.N (ix3 i a b)
      = bias (fun q => V c main_v5 (ix3 (q16 q) a b)) (fun q => V c main_v7 (ix3 q a b)) i := by
  refine (dat1 V c).arrAt_forall_of_covers 2 (fun y v => ∀ (i : Fin 3) (a : Fin 64) (b : Fin 128), y = ix3 i a b →
    v = bias (fun q => V c main_v5 (ix3 (q16 q) a b)) (fun q => V c main_v7 (ix3 q a b)) i)
    (by decide +kernel) ?_ _ (Memref.isWhole_whole _) i a b rfl
  intro t hf y i a b hi
  have h0 := congrArg (fun i : S3x64x128.Idx => (i 0).val) hi
  have h1 := congrArg (fun i : S3x64x128.Idx => (i 1).val) hi
  have h2 := congrArg (fun i : S3x64x128.Idx => (i 2).val) hi
  blk_simp [index2] at h0 h1 h2 ⊢
  obtain ⟨i', a', b', rfl⟩ : ∃ (i' : Fin 3) (a' : Fin 32) (b' : Fin 128), y = ix3 i' a' b' :=
    ⟨y 0, y 1, y 2, funext fun a => match a with | ⟨0, _⟩ => rfl | ⟨1, _⟩ => rfl | ⟨2, _⟩ => rfl⟩
  have h0' : i'.val = i.val := h0
  have h1' : t.val * 32 + a'.val = a.val := h1
  have h2' : b'.val = b.val := h2
  have hlt : t.val * 32 + a'.val < 64 := by have := a.isLt; omega
  obtain rfl : a = ⟨t.val * 32 + a'.val, hlt⟩ := Fin.ext h1'.symm
  obtain rfl : i' = i := Fin.ext h0'
  obtain rfl : b' = b := Fin.ext h2'
  rw [after1_2]
  refine (Gsp.out_apply _ _ i' a' b').trans ?_
  congr 1
  · exact funext fun q => read_s V c t _ a' b' _
  · exact funext fun q => read_b V c t _ a' b' _

end Cert.KernelIdeal.Region1

end
-- ==== Proof.Region2.lean ====
/-
  The third kernel's result array: the scaled, centred coordinates plus the bias, both taken from tiles of eight rows.
-/
module

public import proofs.«01_k».proof.Proof.Region1

@[expose] public section

set_option maxRecDepth 16384

noncomputable section

namespace Cert.KernelIdeal.Region2

open Cert.KernelIdeal Cert.KernelIdeal.Gen Idealize.ShloMosaic Idealize.ShloMosaic.TcCoe Idealize.ShloMosaic.Pipeline Cert.Spec

/-- The named scale. -/
def scale : EReal := (Named.named κ "inv_std" 0x42333196#32 : Ideal .f32)

/-- A row's place in the tile of eight. -/
abbrev m8 {n : Nat} (r : Fin n) : Fin 8 := ⟨r.val % 8, Nat.mod_lt _ (by decide)⟩

/-- Eight rows, thirty-two times over, make 256. -/
theorem tiles : S256x2048.Concatenates ((List.ofFn fun _ : Fin 32 => S8x2048)) 0 := concatenates_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S8x2048_S256x2048_d0

/-- Eight rows repeated, at an index. -/
theorem tile_apply (v : FVec Ideal S8x2048 .f32) (h) (r : Fin 256) (l : Fin 2048) :
    concatenate S256x2048 0 (List.ofFn fun _ : Fin 32 => (⟨S8x2048, v⟩ : (s : Shape) × (s.Idx → Ideal .f32))) h (ix2 r l) = v (ix2 (m8 r) l) := by
  have hr := r.isLt
  exact concatenate_ofFn_apply (t := S256x2048) (s₁ := S8x2048) 0 (fun _ : Fin 32 => v) h rfl 8 rfl (ix2 r l) ⟨r.val / 8, by omega⟩ rfl (ix2 (m8 r) l) rfl
    (fun b hb => match b, hb with
      | ⟨0, _⟩, hb => absurd rfl hb
      | ⟨1, _⟩, _ => rfl)

theorem gain_apply (x2 : Vec Ideal S8x2048 .f32) (r : Fin 256) (l : Fin 2048) :
    k2_pay3 (View.ld x2 r2_0) (ix2 r l) = x2 (ix2 (m8 r) l) * scale := by
  refine (tile_apply _ tiles r l).trans ?_
  rw [View.ld_unit_zero Region0.hz2]
  exact congrArg (· * scale) (congrFun (shapeCast_self x2 _) _)

theorem tile_ld (x3 : Vec Ideal S3x8x2048 .f32) (j : Fin 3) (h) (r : Fin 8) (l : Fin 2048) :
    shapeCast S8x2048 (View.ld x3 (Rect.unit (s := S3x8x2048) ![j.val, 0, 0] S1x8x2048.size h)) shapeCasts_S1x8x2048_S8x2048 (ix2 r l) = x3 (ix3 j r l) := by
  rw [shapeCast_apply _ _ (ix2 r l) (ix3 (0 : Fin 1) r l) (by
    rw [Shape.rowMajor_val_two, Shape.rowMajor_val_three]
    show (0 * 8 + r.val) * 2048 + l.val = r.val * 2048 + l.val
    omega)]
  exact View.ld_unit_apply_of x3 _ _ h _ _ fun d => match d with
    | ⟨0, _⟩ => by show j.val = j.val + 0; omega
    | ⟨1, _⟩ => by show r.val = 0 + r.val; omega
    | ⟨2, _⟩ => by show l.val = 0 + l.val; omega

/-- The mean of a coordinate, spread over the points of a row. -/
theorem mean_ld (x1 : Vec Ideal S256x16 .f32) (j : Fin 16) (h) (r : Fin 256) (l : Fin 2048) :
    broadcastTo S256x2048 (mulf (shapeCast S256x1 (View.ld x1 (Rect.unit (s := S256x16) ![0, j.val] S256x1.size h)) shapeCasts_S256x1_S256x1)
      (broadcast S256x1 (Scalar.ofBits .f32 0x3A000000#32 : Ideal .f32))) broadcasts_S256x1_S256x2048 (ix2 r l) = x1 (ix2 r j) * inv := by
  rw [broadcastTo_apply _ _ (ix2 r l) (ix2 r (0 : Fin 1)) (fun a => match a with
    | ⟨0, _⟩ => rfl
    | ⟨1, _⟩ => rfl)]
  refine congrArg (· * inv) ((congrFun (shapeCast_self _ _) _).trans ?_)
  exact View.ld_unit_apply_of x1 _ _ h _ _ fun d => match d with
    | ⟨0, _⟩ => by show r.val = 0 + r.val; omega
    | ⟨1, _⟩ => by show j.val = j.val + 0; omega

theorem out_at (v : FVec Ideal S256x2048 .f32) (r : Fin 256) (l : Fin 2048) :
    shapeCast S1x256x2048 v shapeCasts_S256x2048_S1x256x2048 (ix3 (0 : Fin 1) r l) = v (ix2 r l) :=
  shapeCast_apply _ _ _ (ix2 r l) (by
    rw [Shape.rowMajor_val_two, Shape.rowMajor_val_three]
    show r.val * 2048 + l.val = (0 * 256 + r.val) * 2048 + l.val
    omega)

theorem mix (g x mu b : FVec Ideal S256x2048 .f32) (y : S256x2048.Idx) {g' x' m' b' : EReal} (hg : g y = g') (hx : x y = x') (hm : mu y = m') (hb : b y = b') :
    addf (mulf g (subf x mu)) b y = g' * (x' - m') + b' := by
  show g y * (x y - mu y) + b y = _
  rw [hg, hx, hm, hb]

/-- The block's result at an index. -/
theorem out_apply (x0 : Vec Ideal S3x256x2048 .f32) (x1 : Vec Ideal S256x16 .f32) (x2 : Vec Ideal S8x2048 .f32) (x3 : Vec Ideal S3x8x2048 .f32)
    (i : Fin 3) (r : Fin 256) (l : Fin 2048) :
    out2_4 x0 x1 x2 x3 (ix3 i r l)
      = x2 (ix2 (m8 r) l) * scale * (x0 (ix3 i r l) - x1 (ix2 r (i.castLT (by have := i.isLt; omega) : Fin 16)) * inv) + x3 (ix3 i (m8 r) l) := by
  unfold out2_4
  refine (Layers.layers _ _ _ _ _ _ i r l).trans ?_
  match i with
  | ⟨0, _⟩ => exact (out_at _ r l).trans (mix _ _ _ _ _ (gain_apply x2 r l) (Stats.ld_apply x0 0 _ r l) (mean_ld x1 0 _ r l) ((tile_apply _ tiles r l).trans (tile_ld x3 0 _ _ l)))
  | ⟨1, _⟩ => exact (out_at _ r l).trans (mix _ _ _ _ _ (gain_apply x2 r l) (Stats.ld_apply x0 1 _ r l) (mean_ld x1 1 _ r l) ((tile_apply _ tiles r l).trans (tile_ld x3 1 _ _ l)))
  | ⟨2, _⟩ => exact (out_at _ r l).trans (mix _ _ _ _ _ (gain_apply x2 r l) (Stats.ld_apply x0 2 _ r l) (mean_ld x1 2 _ r l) ((tile_apply _ tiles r l).trans (tile_ld x3 2 _ _ l)))

theorem index0 : ∀ t : Fin cfg2.N, win2_0.index t = ![0, t.val, 0] := (by decide +kernel : ∀ t : Fin grid2.N, win2_0.index t = ![0, t.val, 0])
theorem index1 : ∀ t : Fin cfg2.N, win2_1.index t = ![t.val, 0] := (by decide +kernel : ∀ t : Fin grid2.N, win2_1.index t = ![t.val, 0])
theorem index2 : ∀ t : Fin cfg2.N, win2_2.index t = ![0, 0] := (by decide +kernel : ∀ t : Fin grid2.N, win2_2.index t = ![0, 0])
theorem index3 : ∀ t : Fin cfg2.N, win2_3.index t = ![0, 0, 0] := (by decide +kernel : ∀ t : Fin grid2.N, win2_3.index t = ![0, 0, 0])
theorem index4 : ∀ t : Fin cfg2.N, win2_4.index t = ![0, t.val, 0] := (by decide +kernel : ∀ t : Fin grid2.N, win2_4.index t = ![0, t.val, 0])

variable (V : (c : Dev nD) → (b : Ref sig .tc) → Buf (Elt Ideal) ((c : Thread nD τ).loc b))

theorem read_x (c : Dev nD) (t : Fin cfg2.N) (k : Fin 3) (r : Fin 256) (l : Fin 2048) (h : t.val * 256 + r.val < 8192) :
    (iblk2 V c 0 t : Vec Ideal S3x256x2048 .f32) (ix3 k r l) = V c main_v1 (ix3 k (⟨t.val * 256 + r.val, h⟩ : Fin 8192) l) := by
  blk_simp [iblk2, index0]
  refine congrArg (V c main_v1) ?_
  blk_ext [index0]

theorem read_s (c : Dev nD) (t : Fin cfg2.N) (r : Fin 256) (q : Fin 16) (h : t.val * 256 + r.val < 8192) :
    (iblk2 V c 1 t : Vec Ideal S256x16 .f32) (ix2 r q) = V c main_v4_0 (ix2 (⟨t.val * 256 + r.val, h⟩ : Fin 8192) q) := by
  blk_simp [iblk2, index1]
  refine congrArg (V c main_v4_0) ?_
  blk_ext [index1]

theorem read_g (c : Dev nD) (t : Fin cfg2.N) (r : Fin 8) (l : Fin 2048) :
    (iblk2 V c 2 t : Vec Ideal S8x2048 .f32) (ix2 r l) = V c main_v16 (ix2 r l) := by
  blk_simp [iblk2, index2]
  refine congrArg (V c main_v16) ?_
  blk_ext [index2]

theorem read_b (c : Dev nD) (t : Fin cfg2.N) (k : Fin 3) (r : Fin 8) (l : Fin 2048) :
    (iblk2 V c 3 t : Vec Ideal S3x8x2048 .f32) (ix3 k r l) = V c main_v12 (ix3 k r l) := by
  blk_simp [iblk2, index3]
  refine congrArg (V c main_v12) ?_
  blk_ext [index3]

/-- A coordinate's column among the sixteen stored. -/
abbrev c16 (i : Fin 3) : Fin 16 := i.castLT (by have := i.isLt; omega)

/-- What the result array holds at an index, from the four operand arrays. -/
def result (x : Vec Ideal S3x8192x2048 .f32) (st : Vec Ideal S8192x16 .f32) (g : Vec Ideal S8x2048 .f32) (b : Vec Ideal S3x8x2048 .f32)
    (i : Fin 3) (s : Fin 8192) (l : Fin 2048) : EReal :=
  g (ix2 (m8 s) l) * scale * (x (ix3 i s l) - st (ix2 s (c16 i)) * inv) + b (ix3 i (m8 s) l)

theorem applied (c : Dev nD) (i : Fin 3) (s : Fin 8192) (l : Fin 2048) : (dat2 V c).arrAt 4 cfg2.N (ix3 i s l) = result (V c main_v1) (V c main_v4_0) (V c main_v16) (V c main_v12) i s l := by
  refine (dat2 V c).arrAt_forall_of_covers 4 (fun y v => ∀ (i : Fin 3) (s : Fin 8192) (l : Fin 2048), y = ix3 i s l → v = result (V c main_v1) (V c main_v4_0) (V c main_v16) (V c main_v12) i s l)
    (by decide +kernel) ?_ _ (Memref.isWhole_whole _) i s l rfl
  intro t hf y i s l hi
  have h0 := congrArg (fun i : S3x8192x2048.Idx => (i 0).val) hi
  have h1 := congrArg (fun i : S3x8192x2048.Idx => (i 1).val) hi
  have h2 := congrArg (fun i : S3x8192x2048.Idx => (i 2).val) hi
  blk_simp [index4] at h0 h1 h2 ⊢
  obtain ⟨i', r, l', rfl⟩ : ∃ (i' : Fin 3) (r : Fin 256) (l' : Fin 2048), y = ix3 i' r l' :=
    ⟨y 0, y 1, y 2, funext fun a => match a with | ⟨0, _⟩ => rfl | ⟨1, _⟩ => rfl | ⟨2, _⟩ => rfl⟩
  have h0' : i'.val = i.val := h0
  have h1' : t.val * 256 + r.val = s.val := h1
  have h2' : l'.val = l.val := h2
  have hlt : t.val * 256 + r.val < 8192 := by have := s.isLt; omega
  obtain rfl : s = ⟨t.val * 256 + r.val, hlt⟩ := Fin.ext h1'.symm
  obtain rfl : i' = i := Fin.ext h0'
  obtain rfl : l' = l := Fin.ext h2'
  have hm : (m8 r : Fin 8) = m8 (⟨t.val * 256 + r.val, hlt⟩ : Fin 8192) := Fin.ext (by show r.val % 8 = (t.val * 256 + r.val) % 8; omega)
  rw [after2_4]
  refine (out_apply _ _ _ _ i' r l').trans ?_
  rw [read_x V c t i' r l' hlt, read_s V c t r _ hlt, read_g V c t, read_b V c t, hm]
  rfl

end Cert.KernelIdeal.Region2

end
-- ==== Proof.Chain.lean ====
/-
  The kernel's result in terms of the four arguments: the host operations around the three kernels read at an
  index, and the whole chain put together.
-/
module

public import proofs.«01_k».proof.Proof.Region2
public import Idealize.ShloMosaic.Lib.ValueIdxRank6
public import Idealize.ShloMosaic.Lib.StableHlo.Run
public import Idealize.ShloMosaic.Lib.IdealHost

@[expose] public section

set_option maxRecDepth 16384

noncomputable section

namespace Cert.KernelIdeal.Chain

open Cert.KernelIdeal Cert.KernelIdeal.Gen Idealize.ShloMosaic Idealize.ShloMosaic.TcCoe Idealize.ShloMosaic.Pipeline Cert.Spec

/-! ## The arrays the host operations build, at an index -/

theorem coords_apply (x : Vec Ideal S16777216x3 .f32) (i : Fin 3) (s : Fin 8192) (l : Fin 2048) (n : Fin 16777216) (hn : n.val = s.val * 2048 + l.val) :
    shapeCast S3x8192x2048 (transpose S3x16777216 [1, 0] x transposes_S16777216x3_S3x16777216_1_0) shapeCasts_S3x16777216_S3x8192x2048 (ix3 i s l)
      = x (ix2 n i) := by
  rw [shapeCast_apply _ _ (ix3 i s l) (ix2 i n) (by
    rw [Shape.rowMajor_val_two, Shape.rowMajor_val_three]
    show i.val * 16777216 + n.val = (i.val * 8192 + s.val) * 2048 + l.val
    omega)]
  exact transpose_apply _ _ _ (ix2 i n) (ix2 n i) fun b => match b with
    | ⟨0, _⟩ => rfl
    | ⟨1, _⟩ => rfl

theorem back_apply (x : Vec Ideal S3x8192x2048 .f32) (i : Fin 3) (s : Fin 8192) (l : Fin 2048) (n : Fin 16777216) (hn : n.val = s.val * 2048 + l.val) :
    transpose S16777216x3 [1, 0] (shapeCast S3x16777216 x shapeCasts_S3x8192x2048_S3x16777216) transposes_S3x16777216_S16777216x3_1_0 (ix2 n i)
      = x (ix3 i s l) := by
  rw [transpose_apply _ _ _ (ix2 n i) (ix2 i n) fun b => match b with
    | ⟨0, _⟩ => rfl
    | ⟨1, _⟩ => rfl]
  exact shapeCast_apply _ _ _ _ (by
    rw [Shape.rowMajor_val_two, Shape.rowMajor_val_three]
    show (i.val * 8192 + s.val) * 2048 + l.val = i.val * 16777216 + n.val
    omega)

theorem split_apply {R : Nat} (x : FVec Ideal ⟨2, ![R, 8192]⟩ .f32) (h) (q : Fin R) (a : Fin 64) (b : Fin 128) (s : Fin 8192) (hs : s.val = a.val * 128 + b.val) :
    shapeCast ⟨3, ![R, 64, 128]⟩ x h (ix3 q a b) = x (ix2 q s) :=
  shapeCast_apply _ _ _ _ (by
    rw [Shape.rowMajor_val_two, Shape.rowMajor_val_three]
    show q.val * 8192 + s.val = (q.val * 64 + a.val) * 128 + b.val
    omega)

theorem turned_apply (x : Vec Ideal S8192x3 .f32) (q : Fin 3) (a : Fin 64) (b : Fin 128) (s : Fin 8192) (hs : s.val = a.val * 128 + b.val) :
    shapeCast S3x64x128 (transpose S3x8192 [1, 0] x transposes_S8192x3_S3x8192_1_0) shapeCasts_S3x8192_S3x64x128 (ix3 q a b) = x (ix2 s q) :=
  (split_apply _ _ q a b s hs).trans (transpose_apply _ _ _ (ix2 q s) (ix2 s q) fun b => match b with
    | ⟨0, _⟩ => rfl
    | ⟨1, _⟩ => rfl)

theorem gains_apply (x : Vec Ideal S8192 .f32) (r : Fin 8) (l : Fin 2048) (n : Fin 8192) (hn : n.val = r.val % 4 * 2048 + l.val) :
    shapeCast S8x2048 (broadcastInDim S2x4x1x2048 ![0, 1, 2, 3] bcast_S1x4x1x2048_S2x4x1x2048_0_1_2_3
      (shapeCast S1x4x1x2048 (shapeCast S4x2048 x shapeCasts_S8192_S4x2048) shapeCasts_S4x2048_S1x4x1x2048)) shapeCasts_S2x4x1x2048_S8x2048 (ix2 r l)
      = x (ix1 n) := by
  have hr := r.isLt
  rw [shapeCast_apply _ _ (ix2 r l) (ix4 (⟨r.val / 4, by omega⟩ : Fin 2) (⟨r.val % 4, by omega⟩ : Fin 4) (0 : Fin 1) l) (by
    rw [Shape.rowMajor_val_two, Shape.rowMajor_val_four]
    show ((r.val / 4 * 4 + r.val % 4) * 1 + 0) * 2048 + l.val = r.val * 2048 + l.val
    omega)]
  rw [broadcastInDim_apply _ _ _ _ (ix4 (0 : Fin 1) (⟨r.val % 4, by omega⟩ : Fin 4) (0 : Fin 1) l) fun b => match b with
    | ⟨0, _⟩ => rfl
    | ⟨1, _⟩ => rfl
    | ⟨2, _⟩ => rfl
    | ⟨3, _⟩ => rfl]
  rw [shapeCast_apply _ _ (ix4 (0 : Fin 1) (⟨r.val % 4, by omega⟩ : Fin 4) (0 : Fin 1) l) (ix2 (⟨r.val % 4, by omega⟩ : Fin 4) l) (by
    rw [Shape.rowMajor_val_two, Shape.rowMajor_val_four]
    show r.val % 4 * 2048 + l.val = ((0 * 4 + r.val % 4) * 1 + 0) * 2048 + l.val
    omega)]
  exact shapeCast_apply _ _ _ _ (by
    rw [Shape.rowMajor_val_two, Shape.rowMajor_val_one]
    show n.val = r.val % 4 * 2048 + l.val
    exact hn)

theorem biases_apply (x : Vec Ideal S3x64x128 .f32) (i : Fin 3) (r : Fin 8) (l : Fin 2048) (a : Fin 64) (b : Fin 128)
    (hn : a.val * 128 + b.val = r.val % 4 * 2048 + l.val) :
    shapeCast S3x8x2048 (broadcastInDim S1x3x2x4x1x2048 ![0, 1, 2, 3, 4, 5] bcast_S1x3x1x4x1x2048_S1x3x2x4x1x2048_0_1_2_3_4_5
      (shapeCast S1x3x1x4x1x2048 (shapeCast S3x4x2048 x shapeCasts_S3x64x128_S3x4x2048) shapeCasts_S3x4x2048_S1x3x1x4x1x2048))
      shapeCasts_S1x3x2x4x1x2048_S3x8x2048 (ix3 i r l) = x (ix3 i a b) := by
  have hr := r.isLt
  rw [shapeCast_apply _ _ (ix3 i r l) (ix6 (0 : Fin 1) i (⟨r.val / 4, by omega⟩ : Fin 2) (⟨r.val % 4, by omega⟩ : Fin 4) (0 : Fin 1) l) (by
    rw [Shape.rowMajor_val_three, Shape.rowMajor_val_six]
    show ((((0 * 3 + i.val) * 2 + r.val / 4) * 4 + r.val % 4) * 1 + 0) * 2048 + l.val = (i.val * 8 + r.val) * 2048 + l.val
    omega)]
  rw [broadcastInDim_apply _ _ _ _ (ix6 (0 : Fin 1) i (0 : Fin 1) (⟨r.val % 4, by omega⟩ : Fin 4) (0 : Fin 1) l) fun b => match b with
    | ⟨0, _⟩ => rfl
    | ⟨1, _⟩ => rfl
    | ⟨2, _⟩ => rfl
    | ⟨3, _⟩ => rfl
    | ⟨4, _⟩ => rfl
    | ⟨5, _⟩ => rfl]
  rw [shapeCast_apply _ _ (ix6 (0 : Fin 1) i (0 : Fin 1) (⟨r.val % 4, by omega⟩ : Fin 4) (0 : Fin 1) l) (ix3 i (⟨r.val % 4, by omega⟩ : Fin 4) l) (by
    rw [Shape.rowMajor_val_three, Shape.rowMajor_val_six]
    show (i.val * 4 + r.val % 4) * 2048 + l.val = ((((0 * 3 + i.val) * 1 + 0) * 4 + r.val % 4) * 1 + 0) * 2048 + l.val
    omega)]
  exact shapeCast_apply _ _ _ _ (by
    rw [Shape.rowMajor_val_three, Shape.rowMajor_val_three]
    show (i.val * 64 + a.val) * 128 + b.val = (i.val * 4 + r.val % 4) * 2048 + l.val
    omega)

/-! ## The stretches of host operations -/

section Stretches
variable (V : Valuation τ sig (Elt Ideal))

theorem ops0_table : StableHlo.after hostOps0 V (Proc.devRef .tc main_cst)
    = ((fun i => (FloatOps.ofBits .f32 (lit0 (S1920x16.rowMajor i)) : Ideal .f32)) : Vec Ideal S1920x16 .f32) := by
  simp only [StableHlo.after_cons, StableHlo.after_nil]
  after_results_simp
  rfl

theorem ops0_x : StableHlo.after hostOps0 V (Proc.devRef .tc main_v1)
    = shapeCast S3x8192x2048 (transpose S3x16777216 [1, 0] (V (Proc.devRef .tc main_arg0)) transposes_S16777216x3_S3x16777216_1_0) shapeCasts_S3x16777216_S3x8192x2048 := by
  simp only [StableHlo.after_cons, StableHlo.after_nil]
  after_results_simp
  rfl

theorem ops0_p : StableHlo.after hostOps0 V (Proc.devRef .tc main_v3)
    = shapeCast S3x8192x2048 (transpose S3x16777216 [1, 0] (V (Proc.devRef .tc main_arg3)) transposes_S16777216x3_S3x16777216_1_0) shapeCasts_S3x16777216_S3x8192x2048 := by
  simp only [StableHlo.after_cons, StableHlo.after_nil]
  after_results_simp
  rfl

theorem ops1_stats : StableHlo.after hostOps1 V (Proc.devRef .tc main_v5) = shapeCast S16x64x128 (V (Proc.devRef .tc main_v4_1)) shapeCasts_S16x8192_S16x64x128 := by
  simp only [StableHlo.after_cons, StableHlo.after_nil]
  after_results_simp
  rfl

theorem ops1_bias : StableHlo.after hostOps1 V (Proc.devRef .tc main_v7)
    = shapeCast S3x64x128 (transpose S3x8192 [1, 0] (V (Proc.devRef .tc main_arg2)) transposes_S8192x3_S3x8192_1_0) shapeCasts_S3x8192_S3x64x128 := by
  simp only [StableHlo.after_cons, StableHlo.after_nil]
  after_results_simp
  rfl

theorem ops2_bias : StableHlo.after hostOps2 V (Proc.devRef .tc main_v12)
    = shapeCast S3x8x2048 (broadcastInDim S1x3x2x4x1x2048 ![0, 1, 2, 3, 4, 5] bcast_S1x3x1x4x1x2048_S1x3x2x4x1x2048_0_1_2_3_4_5
      (shapeCast S1x3x1x4x1x2048 (shapeCast S3x4x2048 (V (Proc.devRef .tc main_v8)) shapeCasts_S3x64x128_S3x4x2048) shapeCasts_S3x4x2048_S1x3x1x4x1x2048))
      shapeCasts_S1x3x2x4x1x2048_S3x8x2048 := by
  simp only [StableHlo.after_cons, StableHlo.after_nil]
  after_results_simp
  rfl

theorem ops2_gain : StableHlo.after hostOps2 V (Proc.devRef .tc main_v16)
    = shapeCast S8x2048 (broadcastInDim S2x4x1x2048 ![0, 1, 2, 3] bcast_S1x4x1x2048_S2x4x1x2048_0_1_2_3
      (shapeCast S1x4x1x2048 (shapeCast S4x2048 (V (Proc.devRef .tc main_arg1)) shapeCasts_S8192_S4x2048) shapeCasts_S4x2048_S1x4x1x2048))
      shapeCasts_S2x4x1x2048_S8x2048 := by
  simp only [StableHlo.after_cons, StableHlo.after_nil]
  after_results_simp
  rfl

theorem ops3_out : StableHlo.after hostOps3 V (Proc.devRef .tc main_v19)
    = transpose S16777216x3 [1, 0] (shapeCast S3x16777216 (V (Proc.devRef .tc main_v17)) shapeCasts_S3x8192x2048_S3x16777216) transposes_S3x16777216_S16777216x3_1_0 := by
  simp only [StableHlo.after_cons, StableHlo.after_nil]
  after_results_simp
  rfl

end Stretches

/-- The table of zeros and ones. -/
theorem table (V : Valuation τ sig (Elt Ideal)) : Stats.IsTable (StableHlo.after hostOps0 V (Proc.devRef .tc main_cst)) := by
  intro n q
  rw [ops0_table V]
  have hq := q.isLt
  have hn := n.isLt
  have hk : S1920x16.rowMajor (ix2 n q) = ⟨n.val * 16 + q.val, by show n.val * 16 + q.val < 30720; omega⟩ := Fin.ext (by
    rw [Shape.rowMajor_val_two]
    rfl)
  show Ideal.ofBits .f32 (lit0 (S1920x16.rowMajor (ix2 n q))) = _
  rw [hk]
  show Ideal.ofBits .f32 (lit0t (n.val * 16 + q.val)) = _
  rw [Table.words n q]
  have hm : (q.val % 16 = n.val / 128) ↔ n.val / 128 = q.val := by omega
  unfold Table.word
  by_cases h : n.val / 128 = q.val
  · rw [if_pos (hm.2 h), if_pos h]
    exact Ideal.ofBits_one_f32
  · rw [if_neg (fun e => h (hm.1 e)), if_neg h]
    exact Ideal.ofBits_zero_f32

/-! ## The chain -/

/-- The point in place `l` of row `s`. -/
abbrev pt (s : Fin 8192) (l : Fin 2048) : Fin 16777216 := ⟨s.val * 2048 + l.val, by omega⟩

/-- The fifteen sums of a row of points, from the coordinates and the directions as they are passed. -/
def stats (x p : FVec Ideal S16777216x3 .f32) (s : Fin 8192) (q : Fin 15) : EReal :=
  ∑ l : Fin 2048, term (fun c => x (ix2 (pt s l) c)) (fun c => p (ix2 (pt s l) c)) q

/-- The row of a point. -/
abbrev row (n : Fin 16777216) : Fin 8192 := ⟨n.val / 2048, by omega⟩

/-- The entry of the gain and bias arrays that a point takes. -/
abbrev col (n : Fin 16777216) : Fin 8192 := ⟨n.val % 8192, by omega⟩

/-- The kernel's result at a point and a coordinate. -/
def value (x : FVec Ideal S16777216x3 .f32) (g : FVec Ideal S8192 .f32) (b : FVec Ideal S8192x3 .f32) (p : FVec Ideal S16777216x3 .f32)
    (n : Fin 16777216) (i : Fin 3) : EReal :=
  g (ix1 (col n)) * Region2.scale * (x (ix2 n i) - stats x p (row n) (i.castLT (by omega)) * inv)
    + bias (stats x p (col n)) (fun k => b (ix2 (col n) k)) i

variable (m : (ℓ : Loc nD τ sig) → Buf (Elt Ideal) ℓ) (ρ : Dev nD → PrngReg) (c : Dev nD)

/-- The two arrays of points as the kernels read them. -/
theorem x_at (i : Fin 3) (s : Fin 8192) (l : Fin 2048) : (V1 m ρ c main_v1 : Vec Ideal S3x8192x2048 .f32) (ix3 i s l) = (m ((c : Thread nD τ).loc main_arg0) : Vec Ideal S16777216x3 .f32) (ix2 (pt s l) i) :=
  (congrFun (ops0_x (W0 m ρ c)) _).trans (coords_apply _ i s l (pt s l) rfl)

theorem p_at (i : Fin 3) (s : Fin 8192) (l : Fin 2048) : (V1 m ρ c main_v3 : Vec Ideal S3x8192x2048 .f32) (ix3 i s l) = (m ((c : Thread nD τ).loc main_arg3) : Vec Ideal S16777216x3 .f32) (ix2 (pt s l) i) :=
  (congrFun (ops0_p (W0 m ρ c)) _).trans (coords_apply _ i s l (pt s l) rfl)

theorem sums_at (s : Fin 8192) (q : Fin 15) : sums (V1 m ρ c main_v1) (V1 m ρ c main_v3) s q = stats (m ((c : Thread nD τ).loc main_arg0)) (m ((c : Thread nD τ).loc main_arg3)) s q := by
  unfold sums stats
  refine Finset.sum_congr rfl fun l _ => ?_
  exact congrArg₂ (fun u v => term u v q) (funext fun i => x_at m ρ c i s l) (funext fun i => p_at m ρ c i s l)

theorem row_stats_at (s : Fin 8192) (q : Fin 15) : (W2 m ρ c (Proc.devRef .tc main_v4_0) : Vec Ideal S8192x16 .f32) (ix2 s (q16 q)) = stats (m ((c : Thread nD τ).loc main_arg0)) (m ((c : Thread nD τ).loc main_arg3)) s q :=
  (congrFun (W2_arr m ρ c 3) _).trans ((Region0.rows (V1 m ρ) c (table _) s q).trans (sums_at m ρ c s q))

theorem col_stats_at (s : Fin 8192) (q : Fin 15) : (W2 m ρ c (Proc.devRef .tc main_v4_1) : Vec Ideal S16x8192 .f32) (ix2 (q16 q) s) = stats (m ((c : Thread nD τ).loc main_arg0)) (m ((c : Thread nD τ).loc main_arg3)) s q :=
  (congrFun (W2_arr m ρ c 4) _).trans ((Region0.cols (V1 m ρ) c (table _) q s).trans (sums_at m ρ c s q))

theorem turned_at (i : Fin 3) (a : Fin 64) (b : Fin 128) (s : Fin 8192) (hs : s.val = a.val * 128 + b.val) :
    (W4 m ρ c (Proc.devRef .tc main_v8) : Vec Ideal S3x64x128 .f32) (ix3 i a b)
      = bias (stats (m ((c : Thread nD τ).loc main_arg0)) (m ((c : Thread nD τ).loc main_arg3)) s) (fun k => (m ((c : Thread nD τ).loc main_arg2) : Vec Ideal S8192x3 .f32) (ix2 s k)) i := by
  refine (congrFun (W4_arr m ρ c 2) _).trans ((Region1.turned (V3 m ρ) c i a b).trans ?_)
  refine congrArg₂ (fun u v => bias u v i) (funext fun q => ?_) (funext fun k => ?_)
  · exact (congrFun (ops1_stats (W2 m ρ c)) _).trans ((split_apply _ _ (q16 q) a b s hs).trans (col_stats_at m ρ c s q))
  · refine (congrFun (ops1_bias (W2 m ρ c)) _).trans ((turned_apply _ k a b s hs).trans ?_)
    exact congrFun (W2_args m ρ c main_arg2 (by decide)) _

/-- The result array in terms of the arguments. -/
theorem out_at (n : Fin 16777216) (i : Fin 3) :
    (W7 m ρ c (Proc.devRef .tc main_v19) : Vec Ideal S16777216x3 .f32) (ix2 n i)
      = value (m ((c : Thread nD τ).loc main_arg0)) (m ((c : Thread nD τ).loc main_arg1)) (m ((c : Thread nD τ).loc main_arg2)) (m ((c : Thread nD τ).loc main_arg3)) n i := by
  have hn := n.isLt
  have hi := i.isLt
  have hp : n = pt (row n) ⟨n.val % 2048, by omega⟩ := Fin.ext (by show n.val = n.val / 2048 * 2048 + n.val % 2048; omega)
  refine (congrFun (ops3_out (W6 m ρ c)) _).trans ((back_apply _ i (row n) ⟨n.val % 2048, by omega⟩ n (congrArg Fin.val hp)).trans ?_)
  refine (congrFun (W6_arr m ρ c 4) _).trans ((Region2.applied (V5 m ρ) c i (row n) _).trans ?_)
  unfold Region2.result value
  refine congrArg₂ (· + ·) (congrArg₂ (· * ·) (congrArg (· * Region2.scale) ?_) (congrArg₂ (· - ·) ?_ (congrArg (· * inv) ?_))) ?_
  · refine (congrFun (ops2_gain (W4 m ρ c)) _).trans ((gains_apply _ _ _ (col n) (by show n.val % 8192 = n.val / 2048 % 8 % 4 * 2048 + n.val % 2048; omega)).trans ?_)
    exact congrFun (W4_args m ρ c main_arg1 (by decide)) _
  · refine (congrFun ((W5_of m ρ c main_v1 (by decide)).trans ((W4_of m ρ c main_v1 (by decide)).trans ((W3_of m ρ c main_v1 (by decide)).trans (W2_of m ρ c main_v1 (by decide))))) _).trans ?_
    exact (x_at m ρ c i _ _).trans (congrArg (fun z => (m ((c : Thread nD τ).loc main_arg0) : Vec Ideal S16777216x3 .f32) (ix2 z i)) hp.symm)
  · refine (congrFun ((W5_of m ρ c main_v4_0 (by decide)).trans ((W4_of m ρ c main_v4_0 (by decide)).trans (W3_of m ρ c main_v4_0 (by decide)))) _).trans ?_
    exact row_stats_at m ρ c (row n) (i.castLT (by omega))
  · refine (congrFun (ops2_bias (W4 m ρ c)) _).trans ((biases_apply _ _ _ _ (⟨n.val % 8192 / 128, by omega⟩ : Fin 64) (⟨n.val % 128, by omega⟩ : Fin 128)
      (by show n.val % 8192 / 128 * 128 + n.val % 128 = n.val / 2048 % 8 % 4 * 2048 + n.val % 2048; omega)).trans ?_)
    exact turned_at m ρ c i _ _ (col n) (by show n.val % 8192 = n.val % 8192 / 128 * 128 + n.val % 128; omega)

end Cert.KernelIdeal.Chain

end
-- ==== Proof.Run.lean ====
/-
  The kernel program's run: the result array at its value in terms of the arguments, the arguments as launched.
-/
module

public import proofs.«01_k».proof.Proof.Chain

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run ends with the result array at the last stretch's contents and the arguments as launched. -/
theorem run : θ_run defs (onTc (τ := τ) (main (F := Ideal))) ⟨m, fun _ => 0, ρ⟩ (fun r => ∀ c : Dev nD,
      r.2.mem ((c.tc : Thread nD τ).loc main_v19) = W7 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v19 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Run

end
-- ==== Proof.Gram.lean ====
/-
  The reference's Gram-Schmidt step at an index: each group of host operations as a plain expression of the rows it
  works on.
-/
module

public import proofs.«01_k».proof.Proof.Run
public import proofs.«01_k».proof.Proof.Gen.ReferenceIdeal.Read

@[expose] public section

set_option maxRecDepth 16384

noncomputable section

namespace Cert.ReferenceIdeal.Gram

open Cert.ReferenceIdeal Cert.ReferenceIdeal.Gen Cert.ReferenceIdeal.Read Idealize.ShloMosaic Cert.Spec

/-! ## An index from its coordinates -/

theorem at1 {A : Nat} (i : (⟨1, ![A]⟩ : Shape).Idx) (a : Fin A) (h0 : (i 0).val = a.val) : i = ix1 a :=
  funext fun d => Fin.ext (match d with | ⟨0, _⟩ => h0)

theorem at2 {A B : Nat} (i : (⟨2, ![A, B]⟩ : Shape).Idx) (a : Fin A) (b : Fin B) (h0 : (i 0).val = a.val) (h1 : (i 1).val = b.val) : i = ix2 a b :=
  funext fun d => Fin.ext (match d with | ⟨0, _⟩ => h0 | ⟨1, _⟩ => h1)

theorem at3 {A B C : Nat} (i : (⟨3, ![A, B, C]⟩ : Shape).Idx) (a : Fin A) (b : Fin B) (c : Fin C)
    (h0 : (i 0).val = a.val) (h1 : (i 1).val = b.val) (h2 : (i 2).val = c.val) : i = ix3 a b c :=
  funext fun d => Fin.ext (match d with | ⟨0, _⟩ => h0 | ⟨1, _⟩ => h1 | ⟨2, _⟩ => h2)

/-- A sum of three from the zero word. -/
theorem three (f : Fin 3 → EReal) : Ideal.ofBits .f32 0x00000000#32 + ∑ k : Fin 3, f k = f 0 + f 1 + f 2 := by
  rw [Ideal.ofBits_zero_f32, Fin.sum_univ_three, zero_add]

/-! ## Groups of operations -/

/-- The products of two rows of three, summed. -/
theorem dots (y z : FVec Ideal S8192x3 .f32) (b : Fin 8192) :
    Host.reduceAdd (mulf y z) (constant (F := Ideal) S_ .f32 0x00000000#32) reducesTo_S8192x3_S8192_d1 h_S_ (ix1 b)
      = dot (fun j => y (ix2 b j)) (fun j => z (ix2 b j)) := by
  have e : ∀ w : FVec Ideal S8192x3 .f32, Host.reduceAdd w (constant (F := Ideal) S_ .f32 0x00000000#32) reducesTo_S8192x3_S8192_d1 h_S_ (ix1 b)
      = w (ix2 b 0) + w (ix2 b 1) + w (ix2 b 2) := by
    intro w
    simp only [Host.reduceAdd, Ideal.hostReduceAdd_def]
    rw [Ideal.hostReduceAdd_single reducesTo_S8192x3_S8192_d1 (by decide)]
    refine (three fun k => w _).trans ?_
    refine congrArg₂ (· + ·) (congrArg₂ (· + ·) ?_ ?_) ?_ <;> exact congrArg w (at2 _ _ _ rfl rfl)
  exact e (mulf y z)

/-- A row's sum, kept as one column. -/
theorem keep_col (y : FVec Ideal S8192 .f32) (b : Fin 8192) : broadcastInDim S8192x1 ![0] bcast_S8192_S8192x1_0 y (ix2 b 0) = y (ix1 b) :=
  broadcastInDim_apply _ _ _ _ _ fun a => match a with | ⟨0, _⟩ => rfl

/-- One column spread over three. -/
theorem spread_col (y : FVec Ideal S8192x1 .f32) (b : Fin 8192) (j : Fin 3) : broadcastInDim S8192x3 ![0, 1] bcast_S8192x1_S8192x3_0_1 y (ix2 b j) = y (ix2 b 0) :=
  broadcastInDim_apply _ _ _ _ _ fun a => match a with | ⟨0, _⟩ => rfl | ⟨1, _⟩ => rfl

/-- The share of one row in another. -/
theorem share (y z : FVec Ideal S8192x3 .f32) (b : Fin 8192) (j : Fin 3) :
    mulf (broadcastInDim S8192x3 ![0, 1] bcast_S8192x1_S8192x3_0_1 (Host.divf
        (broadcastInDim S8192x1 ![0] bcast_S8192_S8192x1_0 (Host.reduceAdd (mulf y z) (constant (F := Ideal) S_ .f32 0x00000000#32) reducesTo_S8192x3_S8192_d1 h_S_))
        (addf (broadcastInDim S8192x1 ![0] bcast_S8192_S8192x1_0 (Host.reduceAdd (mulf z z) (constant (F := Ideal) S_ .f32 0x00000000#32) reducesTo_S8192x3_S8192_d1 h_S_))
          (broadcastInDim S8192x1 ![] bcast_S_S8192x1 (constant (F := Ideal) S_ .f32 0x3727C5AC#32))))) z (ix2 b j)
      = coef (fun j => y (ix2 b j)) (fun j => z (ix2 b j)) * z (ix2 b j) := by
  refine congrArg (· * z (ix2 b j)) ((spread_col _ b j).trans ?_)
  refine congrArg₂ Ideal.div ((keep_col _ b).trans (dots y z b)) ?_
  exact congrArg (· + eps) ((keep_col _ b).trans (dots z z b))

/-- One of the three rows cut out. -/
theorem cut (k : Fin 3) (y : FVec Ideal S8192x3x3 .f32) (h) (b : Fin 8192) (j : Fin 3) :
    shapeCast S8192x3 (extractStridedSlice S8192x1x3 ![0, k.val, 0] y h) shapeCasts_S8192x1x3_S8192x3 (ix2 b j) = y (ix3 b k j) := by
  rw [shapeCast_apply _ _ (ix2 b j) (ix3 b (0 : Fin 1) j) (by
    rw [Shape.rowMajor_val_two, Shape.rowMajor_val_three]
    show (b.val * 1 + 0) * 3 + j.val = b.val * 3 + j.val
    omega)]
  exact extractStridedSlice_apply _ y h _ _ fun a => match a with
    | ⟨0, _⟩ => by show b.val = 0 + b.val; omega
    | ⟨1, _⟩ => by show k.val = k.val + 0; omega
    | ⟨2, _⟩ => by show j.val = 0 + j.val; omega

/-- The lengths of the three rows. -/
theorem lengths (y : FVec Ideal S8192x3x3 .f32) (b : Fin 8192) (k : Fin 3) :
    Host.sqrt (broadcastInDim S8192x3x1 ![0, 1] bcast_S8192x3_S8192x3x1_0_1
      (Host.reduceAdd (mulf y y) (constant (F := Ideal) S_ .f32 0x00000000#32) reducesTo_S8192x3x3_S8192x3_d2 h_S_)) (ix3 b k 0)
      = Ideal.sqrt (dot (fun j => y (ix3 b k j)) (fun j => y (ix3 b k j))) := by
  have e : ∀ w : FVec Ideal S8192x3x3 .f32, Host.reduceAdd w (constant (F := Ideal) S_ .f32 0x00000000#32) reducesTo_S8192x3x3_S8192x3_d2 h_S_ (ix2 b k)
      = w (ix3 b k 0) + w (ix3 b k 1) + w (ix3 b k 2) := by
    intro w
    simp only [Host.reduceAdd, Ideal.hostReduceAdd_def]
    rw [Ideal.hostReduceAdd_single reducesTo_S8192x3x3_S8192x3_d2 (by decide)]
    refine (three fun k => w _).trans ?_
    refine congrArg₂ (· + ·) (congrArg₂ (· + ·) ?_ ?_) ?_ <;> exact congrArg w (at3 _ _ _ _ rfl rfl rfl)
  refine congrArg Ideal.sqrt ((broadcastInDim_apply _ _ _ _ (ix2 b k) fun a => match a with | ⟨0, _⟩ => rfl | ⟨1, _⟩ => rfl).trans ?_)
  exact e (mulf y y)

/-- One number a row spread over its three coordinates. -/
theorem spread_row (y : FVec Ideal S8192x3x1 .f32) (b : Fin 8192) (k j : Fin 3) :
    broadcastInDim S8192x3x3 ![0, 1, 2] bcast_S8192x3x1_S8192x3x3_0_1_2 y (ix3 b k j) = y (ix3 b k 0) :=
  broadcastInDim_apply _ _ _ _ _ fun a => match a with | ⟨0, _⟩ => rfl | ⟨1, _⟩ => rfl | ⟨2, _⟩ => rfl

/-- A row put back among the three. -/
theorem put (y : FVec Ideal S8192x3 .f32) (b : Fin 8192) (j : Fin 3) : broadcastInDim S8192x1x3 ![0, 2] bcast_S8192x3_S8192x1x3_0_2 y (ix3 b 0 j) = y (ix2 b j) :=
  broadcastInDim_apply _ _ _ _ _ fun a => match a with | ⟨0, _⟩ => rfl | ⟨1, _⟩ => rfl

/-- Three single rows put together. -/
theorem join (y0 y1 y2 : FVec Ideal S8192x1x3 .f32) (b : Fin 8192) (k j : Fin 3) :
    concatenate S8192x3x3 1 [⟨S8192x1x3, y0⟩, ⟨S8192x1x3, y1⟩, ⟨S8192x1x3, y2⟩] concatenates_S8192x1x3_S8192x1x3_S8192x1x3_S8192x3x3_d1 (ix3 b k j)
      = Layers.pick y0 y1 y2 k (ix3 b 0 j) :=
  concatenate_ofFn_apply (t := S8192x3x3) (s₁ := S8192x1x3) 1 (Layers.pick y0 y1 y2) concatenates_S8192x1x3_S8192x1x3_S8192x1x3_S8192x3x3_d1
    rfl 1 rfl (ix3 b k j) k (Nat.div_one _) (ix3 b 0 j) (Nat.mod_one _).symm (fun a ha => match a, ha with
      | ⟨0, _⟩, _ => rfl
      | ⟨1, _⟩, ha => absurd rfl ha
      | ⟨2, _⟩, _ => rfl)

/-! ## The step -/

variable (x p : FVec Ideal S16777216x3 .f32) (a2 : FVec Ideal S8192x3 .f32)

/-- The three rows of group `b` before the step. -/
def raw (b : Fin 8192) (k j : Fin 3) : EReal := val_main_v27 (F := Ideal) x p (ix3 b k j)

/-- The three rows at their lengths. -/
def rows (b : Fin 8192) (k j : Fin 3) : EReal := unit (raw x p b k) j

theorem v30_at (b : Fin 8192) (k j : Fin 3) : val_main_v30 (F := Ideal) x p (ix3 b k j) = rows x p b k j :=
  congrArg (Ideal.div (raw x p b k j)) ((spread_row _ b k j).trans (lengths (val_main_v27 (F := Ideal) x p) b k))

theorem v32_at (b : Fin 8192) (j : Fin 3) : val_main_v32 (F := Ideal) x p (ix2 b j) = rows x p b 0 j := (cut 0 _ _ b j).trans (v30_at x p b 0 j)
theorem v34_at (b : Fin 8192) (j : Fin 3) : val_main_v34 (F := Ideal) x p (ix2 b j) = rows x p b 1 j := (cut 1 _ _ b j).trans (v30_at x p b 1 j)
theorem v36_at (b : Fin 8192) (j : Fin 3) : val_main_v36 (F := Ideal) x p (ix2 b j) = rows x p b 1 j := (cut 1 _ _ b j).trans (v30_at x p b 1 j)
theorem v50_at (b : Fin 8192) (j : Fin 3) : val_main_v50 (F := Ideal) x p (ix2 b j) = rows x p b 2 j := (cut 2 _ _ b j).trans (v30_at x p b 2 j)
theorem v52_at (b : Fin 8192) (j : Fin 3) : val_main_v52 (F := Ideal) x p (ix2 b j) = rows x p b 2 j := (cut 2 _ _ b j).trans (v30_at x p b 2 j)
theorem v66_at (b : Fin 8192) (j : Fin 3) : val_main_v66 (F := Ideal) x p (ix2 b j) = rows x p b 2 j := (cut 2 _ _ b j).trans (v30_at x p b 2 j)

theorem v48_at (b : Fin 8192) (j : Fin 3) : val_main_v48 (F := Ideal) x p (ix2 b j) = second (rows x p b) j := by
  have h := share (val_main_v36 (F := Ideal) x p) (val_main_v32 (F := Ideal) x p) b j
  simp only [v36_at, v32_at] at h
  exact congrArg₂ (· - ·) (v34_at x p b j) h

theorem v64_at (b : Fin 8192) (j : Fin 3) : val_main_v64 (F := Ideal) x p (ix2 b j) = rows x p b 2 j - coef (rows x p b 2) (rows x p b 0) * rows x p b 0 j := by
  have h := share (val_main_v52 (F := Ideal) x p) (val_main_v32 (F := Ideal) x p) b j
  simp only [v52_at, v32_at] at h
  exact congrArg₂ (· - ·) (v50_at x p b j) h

theorem v78_at (b : Fin 8192) (j : Fin 3) : val_main_v78 (F := Ideal) x p (ix2 b j) = third (rows x p b) j := by
  have h := share (val_main_v66 (F := Ideal) x p) (val_main_v48 (F := Ideal) x p) b j
  simp only [v66_at, v48_at] at h
  exact congrArg₂ (· - ·) (v64_at x p b j) h

/-- The three rows after the step. -/
def done (b : Fin 8192) : Fin 3 → Fin 3 → EReal := Layers.pick (rows x p b 0) (second (rows x p b)) (third (rows x p b))

theorem pick_congr {A B C : Type} {f0 f1 f2 : A → C} {g0 g1 g2 : B → C} {y : A} {j : B} (h0 : f0 y = g0 j) (h1 : f1 y = g1 j) (h2 : f2 y = g2 j)
    (k : Fin 3) : Layers.pick f0 f1 f2 k y = Layers.pick g0 g1 g2 k j :=
  match k with
  | ⟨0, _⟩ => h0
  | ⟨1, _⟩ => h1
  | ⟨2, _⟩ => h2

theorem v79_at (b : Fin 8192) (j : Fin 3) : val_main_v79 (F := Ideal) x p (ix3 b 0 j) = rows x p b 0 j := (put _ b j).trans (v32_at x p b j)
theorem v80_at (b : Fin 8192) (j : Fin 3) : val_main_v80 (F := Ideal) x p (ix3 b 0 j) = second (rows x p b) j := (put _ b j).trans (v48_at x p b j)
theorem v81_at (b : Fin 8192) (j : Fin 3) : val_main_v81 (F := Ideal) x p (ix3 b 0 j) = third (rows x p b) j := (put _ b j).trans (v78_at x p b j)

theorem v82_at (b : Fin 8192) (k j : Fin 3) : val_main_v82 (F := Ideal) x p (ix3 b k j) = done x p b k j :=
  (join (val_main_v79 (F := Ideal) x p) (val_main_v80 (F := Ideal) x p) (val_main_v81 (F := Ideal) x p) b k j).trans
    (pick_congr (v79_at x p b j) (v80_at x p b j) (v81_at x p b j) k)

theorem v83_at (b : Fin 8192) (k : Fin 3) : val_main_v83 (F := Ideal) x p (ix3 b k 0) = Ideal.sqrt (dot (done x p b k) (done x p b k)) :=
  (lengths (val_main_v82 (F := Ideal) x p) b k).trans
    (congrArg (fun u => Ideal.sqrt (dot u u)) (funext fun j => v82_at x p b k j))

theorem v85_at (b : Fin 8192) (k : Fin 3) : val_main_v85 (F := Ideal) x p (ix3 b k 0) = Ideal.sqrt (dot (done x p b k) (done x p b k)) + eps := by
  rw [val_main_v85_apply, v83_at, val_main_v84_apply, val_main_cst_17_apply]
  rfl

theorem v86_at (b : Fin 8192) (k j : Fin 3) : val_main_v86 (F := Ideal) x p (ix3 b k j) = Ideal.sqrt (dot (done x p b k) (done x p b k)) + eps :=
  (spread_row (val_main_v85 (F := Ideal) x p) b k j).trans (v85_at x p b k)

theorem v87_at (b : Fin 8192) (k j : Fin 3) : val_main_v87 (F := Ideal) x p (ix3 b k j) = short (done x p b k) j := by
  rw [val_main_v87_apply, v82_at, v86_at]
  rfl

theorem v88_at (b : Fin 8192) (i k : Fin 3) : val_main_v88 (F := Ideal) x p (ix3 b i k) = short (done x p b k) i := by
  rw [val_main_v88_apply, at3 (idx_main_v88 (ix3 b i k)) b k i rfl rfl rfl, v87_at]

theorem turn_eq (v w : Fin 3 → Fin 3 → EReal) (h0 : w 0 = v 0) (h1 : w 1 = second v) (h2 : w 2 = third v) (c : Fin 3 → EReal) (i : Fin 3) :
    short (w 0) i * c 0 + short (w 1) i * c 1 + short (w 2) i * c 2 = turn v c i := by
  rw [h0, h1, h2]
  rfl

/-- The turned bias of group `b`. -/
theorem v89_at (b : Fin 8192) (i : Fin 3) : val_main_v89 (F := Ideal) x a2 p (ix2 b i) = turn (rows x p b) (fun k => a2 (ix2 b k)) i := by
  rw [val_main_v89_apply, Fin.sum_univ_three]
  have e : ∀ k : Fin 3, val_main_v88 (F := Ideal) x p (lidx_main_v89 (ix2 b i) k) * a2 (ridx_main_v89 (ix2 b i) k) = short (done x p b k) i * a2 (ix2 b k) := by
    intro k
    rw [at3 (lidx_main_v89 (ix2 b i) k) b i k rfl rfl rfl, v88_at, at2 (ridx_main_v89 (ix2 b i) k) b k rfl rfl]
  rw [e, e, e]
  exact turn_eq (rows x p b) (done x p b) rfl rfl rfl (fun k => a2 (ix2 b k)) i

end Cert.ReferenceIdeal.Gram

end
-- ==== Proof.Reals.lean ====
/-
  The arithmetic of the claim on real inputs: the deviation that the softmax leaves is one fixed number, and the sum of
  products with centred coordinates is the difference of two sums.
-/
module

public import proofs.«01_k».proof.Proof.Gram

@[expose] public section

set_option maxRecDepth 16384

noncomputable section

namespace Cert.Reals

open Idealize.ShloMosaic Cert.Spec
open scoped BigOperators

theorem coe_sum {n : Nat} (f : Fin n → ℝ) : ((∑ i, f i : ℝ) : EReal) = ∑ i, (f i : EReal) := by
  have h : ∀ s : Finset (Fin n), ((∑ i ∈ s, f i : ℝ) : EReal) = ∑ i ∈ s, (f i : EReal) := by
    intro s
    induction s using Finset.induction_on with
    | empty => simp
    | insert a s ha ih => rw [Finset.sum_insert ha, Finset.sum_insert ha, EReal.coe_add, ih]
  exact h Finset.univ

/-- The word of the small number. -/
theorem eps_eq : eps = ((2748779 / 274877906944 : ℝ) : EReal) := by
  unfold eps
  simp [Ideal.ofBits, Ideal.ieee, -EReal.coe_mul]
  norm_num

/-- The word of one over the number of points. -/
theorem inv_eq : Spec.inv = ((1 / 2048 : ℝ) : EReal) := by
  unfold Spec.inv
  simp [Ideal.ofBits, Ideal.ieee, -EReal.coe_mul]
  norm_num

/-- The word of the number of points. -/
theorem count_eq : Ideal.ofBits .f32 0x45000000#32 = ((2048 : ℝ) : EReal) := by
  simp [Ideal.ofBits, Ideal.ieee, -EReal.coe_mul]
  norm_num

/-- The word of minus infinity. -/
theorem lowest_eq : Ideal.ofBits .f32 0xFF800000#32 = ⊥ := by
  simp [Ideal.ofBits, Ideal.ieee]

/-- Division by the number of points. -/
theorem div_count (y : EReal) : Ideal.div y (Ideal.ofBits .f32 0x45000000#32) = y * Spec.inv := by
  rw [count_eq, Ideal.div_coe (by norm_num), inv_eq]

/-- The weights sum to one, so the deviation is the root of `1/2048 + ε` whatever the weights are. -/
theorem deviation (f : Fin 2048 → ℝ) (M : ℝ) :
    Ideal.sqrt (Ideal.div (0 + ∑ l : Fin 2048, (Ideal.div (Ideal.exp ((f l : EReal) - (M : EReal))) (0 + ∑ k : Fin 2048, Ideal.exp ((f k : EReal) - (M : EReal))) + eps))
      (Ideal.ofBits .f32 0x45000000#32)) = ((Real.sqrt (136966507 / 274877906944) : ℝ) : EReal) := by
  have hS : (0 : ℝ) < ∑ k : Fin 2048, Real.exp (f k - M) := Finset.sum_pos (fun k _ => Real.exp_pos _) Finset.univ_nonempty
  have hs : (0 : EReal) + ∑ k : Fin 2048, Ideal.exp ((f k : EReal) - (M : EReal)) = ((∑ k : Fin 2048, Real.exp (f k - M) : ℝ) : EReal) := by
    rw [zero_add, coe_sum]
    refine Finset.sum_congr rfl fun k _ => ?_
    rw [← EReal.coe_sub, Ideal.exp_coe]
  rw [hs]
  have ht : ∀ l : Fin 2048, Ideal.div (Ideal.exp ((f l : EReal) - (M : EReal))) ((∑ k : Fin 2048, Real.exp (f k - M) : ℝ) : EReal) + eps
      = ((Real.exp (f l - M) * (1 / ∑ k : Fin 2048, Real.exp (f k - M)) + 2748779 / 274877906944 : ℝ) : EReal) := by
    intro l
    rw [← EReal.coe_sub, Ideal.exp_coe, Ideal.div_coe hS.ne', eps_eq, ← EReal.coe_mul, ← EReal.coe_add]
  rw [Finset.sum_congr rfl fun l _ => ht l, ← coe_sum, zero_add, count_eq, Ideal.div_coe (by norm_num), ← EReal.coe_mul]
  have hv : (∑ l : Fin 2048, (Real.exp (f l - M) * (1 / ∑ k : Fin 2048, Real.exp (f k - M)) + 2748779 / 274877906944)) * (1 / 2048) = (136966507 / 274877906944 : ℝ) := by
    rw [Finset.sum_add_distrib, ← Finset.sum_mul, mul_one_div_cancel hS.ne', Finset.sum_const, Finset.card_univ, Fintype.card_fin]
    norm_num
  rw [hv, Ideal.sqrt_coe, if_neg (by norm_num)]

/-- A product with a centred coordinate, summed. -/
theorem centred (p x : Fin 2048 → EReal) (hp : ∀ l, ∃ r : ℝ, p l = r) (hx : ∀ l, ∃ r : ℝ, x l = r) :
    ∑ l, p l * (x l - (∑ k, x k) * Spec.inv) = (∑ l, p l * x l) - (∑ l, p l) * ((∑ k, x k) * Spec.inv) := by
  choose p' hp' using hp
  choose x' hx' using hx
  simp only [hp', hx', inv_eq]
  simp only [← coe_sum, ← EReal.coe_mul, ← EReal.coe_sub]
  rw [EReal.coe_eq_coe_iff]
  simp only [mul_sub, Finset.sum_sub_distrib, Finset.sum_mul]

/-- The greatest of finitely many real numbers, from minus infinity, is a real number. -/
theorem greatest {n : Nat} (f : Fin (n + 1) → EReal) (hf : ∀ l, ∃ r : ℝ, f l = r) : ∃ r : ℝ, Finset.univ.fold max ⊥ f = r := by
  have h1 : Finset.univ.fold max ⊥ f < ⊤ := (Finset.fold_max_lt _).2 ⟨bot_lt_top, fun l _ => by obtain ⟨r, hr⟩ := hf l; rw [hr]; exact EReal.coe_lt_top r⟩
  have h2 : ⊥ < Finset.univ.fold max ⊥ f := (Finset.lt_fold_max _).2 (.inr ⟨0, Finset.mem_univ _, by obtain ⟨r, hr⟩ := hf 0; rw [hr]; exact EReal.bot_lt_coe r⟩)
  exact ⟨_, (EReal.coe_toReal h1.ne h2.ne').symm⟩

/-- Scaling by one over the deviation, before or after the gain. -/
theorem scaled (g y : EReal) : g * Ideal.div y ((Real.sqrt (136966507 / 274877906944) : ℝ) : EReal)
    = g * (((Real.sqrt (136966507 / 274877906944))⁻¹ : ℝ) : EReal) * y := by
  rw [Ideal.div_coe (Real.sqrt_ne_zero'.2 (by norm_num)), one_div, mul_assoc, mul_comm y]

end Cert.Reals

end
-- ==== Proof.Centre.lean ====
/-
  The reference's means, centred coordinates and deviations at an index, and its result at an index.
-/
module

public import proofs.«01_k».proof.Proof.Reals

@[expose] public section

set_option maxRecDepth 16384

noncomputable section

namespace Cert.ReferenceIdeal.Centre

open Cert.ReferenceIdeal Cert.ReferenceIdeal.Gen Cert.ReferenceIdeal.Read Cert.ReferenceIdeal.Gram Idealize.ShloMosaic
open Cert.KernelIdeal.Chain (pt stats row col)
open scoped BigOperators

variable (x p : FVec Ideal S16777216x3 .f32)

/-! ## The means -/

theorem v0_at (b : Fin 8192) (l : Fin 2048) (c : Fin 3) : val_main_v0 (F := Ideal) x (ix3 b l c) = x (ix2 (pt b l) c) := by
  rw [val_main_v0_apply]
  refine congrArg x (at2 _ _ _ ?_ ?_)
  · show ((b.val * 2048 + l.val) * 3 + c.val) / 3 = b.val * 2048 + l.val
    omega
  · show ((b.val * 2048 + l.val) * 3 + c.val) % 3 = c.val
    omega

theorem v26_at (b : Fin 8192) (l : Fin 2048) (c : Fin 3) : val_main_v26 (F := Ideal) p (ix3 b l c) = p (ix2 (pt b l) c) := by
  rw [val_main_v26_apply]
  refine congrArg p (at2 _ _ _ ?_ ?_)
  · show ((b.val * 2048 + l.val) * 3 + c.val) / 3 = b.val * 2048 + l.val
    omega
  · show ((b.val * 2048 + l.val) * 3 + c.val) % 3 = c.val
    omega

/-- The mean of a row's coordinate. -/
def mean (b : Fin 8192) (j : Fin 3) : EReal := (∑ l : Fin 2048, x (ix2 (pt b l) j)) * Spec.inv

theorem v1_at (b : Fin 8192) (j : Fin 3) : val_main_v1 (F := Ideal) x (ix2 b j) = ∑ l : Fin 2048, x (ix2 (pt b l) j) := by
  rw [val_main_v1_apply]
  refine (congrArg (· + _) Ideal.ofBits_zero_f32).trans ((zero_add _).trans (Finset.sum_congr rfl fun l _ => ?_))
  rw [at3 (idx_main_v1 (ix2 b j) l) b l j rfl rfl rfl, v0_at]

theorem v4_at (b : Fin 8192) (j : Fin 3) : val_main_v4 (F := Ideal) x (ix3 b 0 j) = mean x b j := by
  rw [val_main_v4_apply, val_main_v2_apply, at2 (idx_main_v2 (ix3 b 0 j)) b j rfl rfl, v1_at, val_main_v3_apply]
  exact Reals.div_count _

theorem v6_at (b : Fin 8192) (l : Fin 2048) (j : Fin 3) : val_main_v6 (F := Ideal) x (ix3 b l j) = x (ix2 (pt b l) j) - mean x b j := by
  rw [val_main_v6_apply, v0_at, val_main_v5_apply, at3 (idx_main_v5 (ix3 b l j)) b 0 j rfl rfl rfl, v4_at]
  rfl

/-! ## The start of the Gram-Schmidt step -/

theorem raw_at (b : Fin 8192) (k j : Fin 3) :
    raw x p b k j = ∑ l : Fin 2048, p (ix2 (pt b l) k) * (x (ix2 (pt b l) j) - mean x b j) := by
  unfold raw
  rw [val_main_v27_apply]
  refine Finset.sum_congr rfl fun l _ => ?_
  rw [at3 (lidx_main_v27 (ix3 b k j) l) b l k rfl rfl rfl, at3 (ridx_main_v27 (ix3 b k j) l) b l j rfl rfl rfl, v26_at, v6_at]

/-- On real inputs the start is the kernel's. -/
theorem raw_eq (hx : ∀ i, ∃ r : ℝ, x i = r) (hp : ∀ i, ∃ r : ℝ, p i = r) (b : Fin 8192) :
    raw x p b = Spec.init (stats x p b) := by
  have h : ∀ k j, raw x p b k j = (∑ l : Fin 2048, p (ix2 (pt b l) k) * x (ix2 (pt b l) j))
      - (∑ l : Fin 2048, p (ix2 (pt b l) k)) * ((∑ l : Fin 2048, x (ix2 (pt b l) j)) * Spec.inv) := fun k j =>
    (raw_at x p b k j).trans (Reals.centred _ _ (fun l => hp _) (fun l => hx _))
  funext k j
  refine (h k j).trans ?_
  fin_cases k <;> fin_cases j <;> rfl

theorem sum_at (b : Fin 8192) (i : Fin 3) : stats x p b (i.castLT (by have := i.isLt; omega)) = ∑ l : Fin 2048, x (ix2 (pt b l) i) := by
  fin_cases i <;> rfl

/-! ## The deviations -/

theorem v8_at (b : Fin 8192) (l : Fin 2048) (hx : ∀ i, ∃ r : ℝ, x i = r) : ∃ r : ℝ, val_main_v8 (F := Ideal) x (ix2 b l) = r := by
  choose y hy using hx
  have h : ∀ j, val_main_v7 (F := Ideal) x (ix3 b l j)
      = (((y (ix2 (pt b l) j) - (∑ k : Fin 2048, y (ix2 (pt b k) j)) * (1 / 2048)) * (y (ix2 (pt b l) j) - (∑ k : Fin 2048, y (ix2 (pt b k) j)) * (1 / 2048)) : ℝ) : EReal) := by
    intro j
    rw [val_main_v7_apply, v6_at, mean, Reals.inv_eq]
    simp only [hy]
    rw [← Reals.coe_sum, ← EReal.coe_mul, ← EReal.coe_sub]
    exact (EReal.coe_mul _ _).symm
  refine ⟨∑ j : Fin 3, (y (ix2 (pt b l) j) - (∑ k : Fin 2048, y (ix2 (pt b k) j)) * (1 / 2048)) * (y (ix2 (pt b l) j) - (∑ k : Fin 2048, y (ix2 (pt b k) j)) * (1 / 2048)), ?_⟩
  rw [val_main_v8_apply, Finset.sum_congr rfl fun j _ => (congrArg (val_main_v7 (F := Ideal) x) (at3 (idx_main_v8 (ix2 b l) j) b l j rfl rfl rfl)).trans (h j), ← Reals.coe_sum]
  exact (congrArg (· + _) Ideal.ofBits_zero_f32).trans (zero_add _)

theorem v9_at (b : Fin 8192) (hx : ∀ i, ∃ r : ℝ, x i = r) : ∃ r : ℝ, val_main_v9 (F := Ideal) x (ix1 b) = r := by
  unfold val_main_v9
  rw [Host.reduce_eq_fold_single (FloatOps.maximumf (F := Ideal) (φ := .f32)) _ _ reducesTo_S8192x2048_S8192_d1 (by decide)]
  refine (Reals.greatest (n := 2047) (fun l : Fin 2048 => val_main_v8 (F := Ideal) x (ix2 b l)) fun l => v8_at x b l hx).imp fun r h => Eq.trans ?_ h
  refine congrArg₂ (fun c f => Finset.univ.fold max c f) Reals.lowest_eq (funext fun l => ?_)
  exact congrArg (val_main_v8 (F := Ideal) x) (at2 _ _ _ rfl rfl)

theorem v11_at (b : Fin 8192) : val_main_v11 (F := Ideal) x (ix1 b) = val_main_v9 (F := Ideal) x (ix1 b) := by
  rw [val_main_v11_apply, val_main_v10_apply]
  exact (congrArg (fun c : EReal => max c (val_main_v9 (F := Ideal) x (ix1 b))) Reals.lowest_eq).trans (bot_sup_eq _)

theorem v15_at (b : Fin 8192) (l : Fin 2048) :
    val_main_v15 (F := Ideal) x (ix2 b l) = Ideal.exp (val_main_v8 (F := Ideal) x (ix2 b l) - val_main_v9 (F := Ideal) x (ix1 b)) := by
  rw [val_main_v15_apply, val_main_v14_apply, val_main_v13_apply, at2 (idx_main_v13 (ix2 b l)) b 0 rfl rfl,
    val_main_v12_apply, at1 (idx_main_v12 (ix2 b 0)) b rfl, v11_at]
  rfl

theorem v16_at (b : Fin 8192) : val_main_v16 (F := Ideal) x (ix1 b) = 0 + ∑ k : Fin 2048, val_main_v15 (F := Ideal) x (ix2 b k) := by
  rw [val_main_v16_apply]
  refine congrArg₂ (· + ·) Ideal.ofBits_zero_f32 (Finset.sum_congr rfl fun k _ => ?_)
  rw [at2 (idx_main_v16 (ix1 b) k) b k rfl rfl]

theorem v21_at (b : Fin 8192) (l : Fin 2048) :
    val_main_v21 (F := Ideal) x (ix2 b l) = Ideal.div (val_main_v15 (F := Ideal) x (ix2 b l)) (val_main_v16 (F := Ideal) x (ix1 b)) + Spec.eps := by
  rw [val_main_v21_apply, val_main_v19_apply, val_main_v18_apply, at2 (idx_main_v18 (ix2 b l)) b 0 rfl rfl,
    val_main_v17_apply, at1 (idx_main_v17 (ix2 b 0)) b rfl, val_main_v20_apply]
  rfl

theorem v25_at (b : Fin 8192) (hx : ∀ i, ∃ r : ℝ, x i = r) :
    val_main_v25 (F := Ideal) x (ix1 b) = ((Real.sqrt (136966507 / 274877906944) : ℝ) : EReal) := by
  obtain ⟨M, hM⟩ := v9_at x b hx
  choose f hf using fun l => v8_at x b l hx
  refine Eq.trans ?_ (Reals.deviation f M)
  rw [val_main_v25_apply, val_main_v24_apply, val_main_v23_apply, val_main_v22_apply]
  have e : ∀ l, val_main_v21 (F := Ideal) x (idx_main_v22 (ix1 b) l)
      = Ideal.div (Ideal.exp ((f l : EReal) - (M : EReal))) (0 + ∑ k : Fin 2048, Ideal.exp ((f k : EReal) - (M : EReal))) + Spec.eps := by
    intro l
    rw [at2 (idx_main_v22 (ix1 b) l) b l rfl rfl, v21_at, v16_at]
    simp only [v15_at, hf, hM]
  rw [Finset.sum_congr rfl fun l _ => e l]
  exact congrArg (fun c => Ideal.sqrt (Ideal.div (c + _) _)) Ideal.ofBits_zero_f32

/-! ## The tiles -/

theorem v91_at (n : Fin 16777216) (i : Fin 3) : val_main_v91 (F := Ideal) x (ix2 n i) = mean x (row n) i := by
  rw [val_main_v91_apply, val_main_v90_apply, at3 (idx_main_v90 (idx_main_v91 (ix2 n i))) (row n) 0 i ?_ rfl ?_, v4_at]
  · show (n.val * 3 + i.val) / 6144 = n.val / 2048
    omega
  · show (n.val * 3 + i.val) % 3 = i.val
    omega

theorem v95_at (g : FVec Ideal S8192 .f32) (n : Fin 16777216) : val_main_v95 (F := Ideal) g (ix2 n 0) = g (ix1 (col n)) := by
  rw [val_main_v95_apply, val_main_v94_apply, val_main_v93_apply, val_main_v92_apply]
  refine congrArg g (at1 _ _ ?_)
  show (((0 * 8192 + (n.val * 1 + 0) / 1 % 8192) * 1 + 0) * 1 + 0) / 1 = n.val % 8192
  omega

theorem v99_at (n : Fin 16777216) : val_main_v99 (F := Ideal) x (ix2 n 0) = val_main_v25 (F := Ideal) x (ix1 (col n)) := by
  rw [val_main_v99_apply, val_main_v98_apply, val_main_v97_apply, val_main_v96_apply]
  refine congrArg (val_main_v25 (F := Ideal) x) (at1 _ _ ?_)
  show (((0 * 8192 + (n.val * 1 + 0) / 1 % 8192) * 1 + 0) * 1 + 0) / 1 = n.val % 8192
  omega

theorem v102_at (a : FVec Ideal S8192x3 .f32) (n : Fin 16777216) (i : Fin 3) :
    val_main_v102 (F := Ideal) x a p (ix2 n i) = val_main_v89 (F := Ideal) x a p (ix2 (col n) i) := by
  rw [val_main_v102_apply, val_main_v101_apply, val_main_v100_apply]
  refine congrArg (val_main_v89 (F := Ideal) x a p) (at2 _ _ _ ?_ ?_)
  · show (((0 * 8192 + (n.val * 3 + i.val) / 3 % 8192) * 1 + 0) * 3 + (n.val * 3 + i.val) % 3) / 3 = n.val % 8192
    omega
  · show (((0 * 8192 + (n.val * 3 + i.val) / 3 % 8192) * 1 + 0) * 3 + (n.val * 3 + i.val) % 3) % 3 = i.val
    omega

/-- The reference's result at an index. -/
theorem result_at (g : FVec Ideal S8192 .f32) (a : FVec Ideal S8192x3 .f32) (n : Fin 16777216) (i : Fin 3) :
    val_main_v108 (F := Ideal) x g a p (ix2 n i)
      = g (ix1 (col n)) * Ideal.div (x (ix2 n i) - mean x (row n) i) (val_main_v25 (F := Ideal) x (ix1 (col n)))
        + Spec.turn (rows x p (col n)) (fun k => a (ix2 (col n) k)) i := by
  rw [val_main_v108_apply, val_main_v107_apply, val_main_v106_apply, at2 (idx_main_v106 (ix2 n i)) n 0 rfl rfl, v95_at,
    val_main_v105_apply, val_main_v104_apply, at2 (idx_main_v104 (ix2 n i)) n 0 rfl rfl, v99_at, val_main_v103_apply, v91_at, v102_at, v89_at]
  rfl

end Cert.ReferenceIdeal.Centre

end
-- ==== Proof.Finite.lean ====
/-
  The precondition read at an index, and the two results as one function of the arguments where it holds.
-/
module

public import proofs.«01_k».proof.Proof.Centre
public import proofs.«01_k».proof.Proof.Gen.Pre_finite

@[expose] public section

set_option maxRecDepth 16384

noncomputable section

namespace Cert.Finite

open Idealize.ShloMosaic Cert.KernelIdeal.Chain Cert.ReferenceIdeal.Read Cert.ReferenceIdeal.Centre Cert.ReferenceIdeal.Gram

/-- The word of plus infinity. -/
theorem highest_eq : Ideal.ofBits .f32 0x7F800000#32 = ⊤ := by
  simp [Ideal.ofBits, Ideal.ieee]

/-- A number whose size is below plus infinity is real. -/
theorem real_of_lt (y : EReal) (h : Ideal.cmp .olt (max y (-y)) (Ideal.ofBits .f32 0x7F800000#32) = 1#1) : ∃ r : ℝ, y = r := by
  rw [highest_eq] at h
  have hlt : max y (-y) < ⊤ := by
    by_contra hn
    simp [Ideal.cmp, hn] at h
  have h1 : y ≠ ⊤ := (lt_of_le_of_lt (le_max_left _ _) hlt).ne
  have h2 : y ≠ ⊥ := by
    rintro rfl
    exact absurd hlt (by simp)
  exact ⟨y.toReal, (EReal.coe_toReal h1 h2).symm⟩

theorem both {a b : BitVec 1} (h : a &&& b = 1#1) : a = 1#1 ∧ b = 1#1 := by
  revert a b
  decide

/-- Where the precondition is all ones, the points and the projection are real. -/
theorem reals [Cert.Pre_finite.Facts] (x p : FVec Ideal ⟨2, ![16777216, 3]⟩ .f32) (g : FVec Ideal ⟨1, ![8192]⟩ .f32) (a : FVec Ideal ⟨2, ![8192, 3]⟩ .f32)
    (h : Cert.Pre_finite.fn (F := Ideal) x g a p = fun _ => 1#1) : (∀ i, ∃ r : ℝ, x i = r) ∧ ∀ i, ∃ r : ℝ, p i = r := by
  have e : ∀ i, Ideal.cmp .olt (max (x i) (-x i)) (Ideal.ofBits .f32 0x7F800000#32) = 1#1
      ∧ Ideal.cmp .olt (max (p i) (-p i)) (Ideal.ofBits .f32 0x7F800000#32) = 1#1 := fun i => both (congrFun h i)
  exact ⟨fun i => real_of_lt _ (e i).1, fun i => real_of_lt _ (e i).2⟩

/-- The scale the kernel multiplies by is one over the deviation. -/
theorem scale_eq : Cert.KernelIdeal.Region2.scale = (((Real.sqrt (136966507 / 274877906944))⁻¹ : ℝ) : EReal) :=
  IdealRules.named_const.ideal_named_scalar _ _ _ _ rfl

/-- The kernel's value at an index is the reference's. -/
theorem value_eq (x p : FVec Ideal ⟨2, ![16777216, 3]⟩ .f32) (g : FVec Ideal ⟨1, ![8192]⟩ .f32) (a : FVec Ideal ⟨2, ![8192, 3]⟩ .f32)
    (hx : ∀ i, ∃ r : ℝ, x i = r) (hp : ∀ i, ∃ r : ℝ, p i = r) (n : Fin 16777216) (i : Fin 3) :
    value x g a p n i = val_main_v108 (F := Ideal) x g a p (ix2 n i) := by
  have hr : rows x p (col n) = fun k => Spec.unit (Spec.init (stats x p (col n)) k) := by
    funext k j
    show Spec.unit (raw x p (col n) k) j = _
    rw [raw_eq x p hx hp]
  rw [result_at, v25_at x _ hx, Reals.scaled, hr, mean, ← sum_at x p, ← scale_eq]
  rfl

end Cert.Finite

end
-- ==== Proof.lean ====
/-
  The certificate: the kernel's two programs and the reference run to the end with their arguments unchanged and every
  counter at zero, the idealized program is the printed one with its constant named, and on real points and projections
  its result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference declares no semaphore, and its run leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one rewrite: the kernel's constant as its name's number. -/
theorem preserves : Cert.preserves_Kernel_KernelIdeal :=
  IdealRules.named_const.statement Cert.KernelIdeal.κ "inv_std" .f32 0x42333196#32 (((Real.sqrt (136966507 / 274877906944))⁻¹ : ℝ) : EReal) rfl

/-- Both programs end holding the kernel's array. -/
theorem algebraic : Cert.algebraic_KernelIdeal_ReferenceIdeal_pre_finite := by
  intro m g m' g' hm hargs
  refine ⟨fun c => Cert.KernelIdeal.Gen.W7 m g c (Proc.devRef .tc Cert.KernelIdeal.main_v19), Cert.KernelIdeal.Run.run m g, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v108_eq (StableHlo.launchContents m' c)).trans ?_
  obtain ⟨h0, h1, h2, h3⟩ := hargs c
  have e : Cert.ReferenceIdeal.Read.val_main_v108 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
      = Cert.KernelIdeal.Gen.W7 m g c (Proc.devRef .tc Cert.KernelIdeal.main_v19) := by
    obtain ⟨hx, hp⟩ := Cert.Finite.reals _ _ _ _ (hm c)
    rw [h0, h1, h2, h3]
    funext i
    rw [Cert.ReferenceIdeal.Gram.at2 i (i 0) (i 1) rfl rfl]
    exact (Cert.Finite.value_eq _ _ _ _ hx hp (i 0) (i 1)).symm.trans (Cert.KernelIdeal.Chain.out_at m g c (i 0) (i 1)).symm
  exact e

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, preserves, algebraic⟩

end Cert.Proof

end
